-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps" .f32 0x3586386D#32 ((1 / 999980 : ℝ) : EReal)
  ∧ IdealRules.named_const.Statement Cert.KernelIdeal.κ "row_entropy" .f32 0xBFBCF9CF#32 (((1 / 10) * (Real.log (387420489 / 999980000000000)) : ℝ) : EReal)
  ∧ IdealRules.named_const.Statement Cert.KernelIdeal.κ "conf" .f32 0x3F666666#32 ((9 / 10 : ℝ) : EReal)

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S_ : Shape := ⟨0, ![]⟩
abbrev S2048 : Shape := ⟨1, ![2048]⟩
abbrev S102400000 : Shape := ⟨1, ![102400000]⟩
abbrev S64 : Shape := ⟨1, ![64]⟩
abbrev S1024x1 : Shape := ⟨2, ![1024, 1]⟩
abbrev S1x1 : Shape := ⟨2, ![1, 1]⟩
abbrev S16x100000 : Shape := ⟨2, ![16, 100000]⟩
abbrev S16 : Shape := ⟨1, ![16]⟩
abbrev S16x1 : Shape := ⟨2, ![16, 1]⟩
abbrev S1 : Shape := ⟨1, ![1]⟩

abbrev nBuf : Table → Nat
  | .hbm => 17
  | .local .tc .vmem => 13
  | .local .scVector .vmem => 2
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S1024, .i32⟩
  | .hbm, ⟨7, _⟩ => ⟨S2048, .i32⟩
  | .hbm, ⟨8, _⟩ => ⟨S102400000, .f32⟩
  | .hbm, ⟨9, _⟩ => ⟨S2048, .f32⟩
  | .hbm, ⟨10, _⟩ => ⟨S1024, .f32⟩
  | .hbm, ⟨11, _⟩ => ⟨S1024x1, .f32⟩
  | .hbm, ⟨12, _⟩ => ⟨S1024, .f32⟩
  | .hbm, ⟨13, _⟩ => ⟨S1024x1, .f32⟩
  | .hbm, ⟨14, _⟩ => ⟨S1024x1, .i32⟩
  | .hbm, ⟨15, _⟩ => ⟨S1x1, .f32⟩
  | .hbm, ⟨16, _⟩ => ⟨S_, .f32⟩
  | .local .tc .vmem, ⟨0, _⟩ => ⟨S16x100000, .f32⟩
  | .local .tc .vmem, ⟨1, _⟩ => ⟨S16x100000, .f32⟩
  | .local .tc .vmem, ⟨2, _⟩ => ⟨S16x100000, .f32⟩
  | .local .tc .vmem, ⟨3, _⟩ => ⟨S16x100000, .f32⟩
  | .local .tc .vmem, ⟨4, _⟩ => ⟨S16x100000, .f32⟩
  | .local .tc .vmem, ⟨5, _⟩ => ⟨S16x100000, .f32⟩
  | .local .tc .vmem, ⟨6, _⟩ => ⟨S16x100000, .f32⟩
  | .local .tc .vmem, ⟨7, _⟩ => ⟨S16x100000, .f32⟩
  | .local .tc .vmem, ⟨8, _⟩ => ⟨S1024x1, .i32⟩
  | .local .tc .vmem, ⟨9, _⟩ => ⟨S1024x1, .f32⟩
  | .local .tc .vmem, ⟨10, _⟩ => ⟨S1024x1, .f32⟩
  | .local .tc .vmem, ⟨11, _⟩ => ⟨S1x1, .f32⟩
  | .local .tc .vmem, ⟨12, _⟩ => ⟨S1024x1, .f32⟩
  | .local .scVector .vmem, ⟨0, _⟩ => ⟨S64, .i32⟩
  | .local .scVector .vmem, ⟨1, _⟩ => ⟨S64, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v5_scv : Ref sig .scVector := ⟨.hbm, 8, rfl⟩
abbrev main_v4_scv : Ref sig .scVector := ⟨.hbm, 7, rfl⟩
abbrev main_v6_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_scratch0 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev grid1 : Pipeline.Grid := ⟨1, ![16], ![false]⟩

def k1_off1 (i : grid1.Coords) (c0_i32 : BitVec 32) : Fin 2 → Nat :=
  let arg0 : BitVec 32 := BitVec.ofNat 32 (i 0).val
  let v3 : BitVec 32 := Scalar.addi arg0 c0_i32
  let c16_i32 : BitVec 32 := 16#32
  let v4 : BitVec 32 := Scalar.muli v3 c16_i32
  let v5 : Index := Scalar.indexCast v4
  let c0_1 : Index := 0#32
  ![v5.toNat, 0]
def k1_cond1 (i : grid1.Coords) : BitVec 1 :=
  let arg0 : BitVec 32 := BitVec.ofNat 32 (i 0).val
  let c15_i32 : BitVec 32 := 15#32
  let v36 : BitVec 1 := Scalar.cmpi .eq arg0 c15_i32
  let v37 : BitVec 32 := Scalar.extui v36
  let c0_i32_18 : BitVec 32 := 0#32
  let v38 : BitVec 1 := Scalar.cmpi .ne v37 c0_i32_18
  v38

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c48_i32 : BitVec 32 := 48#32
  let v0 : BitVec 32 := Scalar.addi arg0 c48_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x100000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x100000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x100000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "conf" => some ((9 / 10 : ℝ) : EReal)
  | "eps" => some ((1 / 999980 : ℝ) : EReal)
  | "row_entropy" => some (((1 / 10) * (Real.log (387420489 / 999980000000000)) : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1024x100000, .f32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024x100000, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S1024, .f32⟩
  | .hbm, ⟨34, _⟩ => ⟨S1024x100000, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024x1, .i1⟩
  | .hbm, ⟨39, _⟩ => ⟨S_, .f32⟩
  | .hbm, ⟨40, _⟩ => ⟨S_, .f32⟩
  | .hbm, ⟨41, _⟩ => ⟨S1024x100000, .i1⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024x100000, .f32⟩
  | .hbm, ⟨46, _⟩ => ⟨S1024x100000, .i1⟩
  | .hbm, ⟨47, _⟩ => ⟨S1024x100000, .i1⟩
  | .hbm, ⟨48, _⟩ => ⟨S1024x100000, .i1⟩
  | .hbm, ⟨49, _⟩ => ⟨S1024x100000, .f32⟩
  | .hbm, ⟨50, _⟩ => ⟨S1024x100000, .f32⟩
  | .hbm, ⟨51, _⟩ => ⟨S_, .f32⟩
  | .hbm, ⟨52, _⟩ => ⟨S1024x100000, .f32⟩
  | .hbm, ⟨53, _⟩ => ⟨S1024x100000, .f32⟩
  | .hbm, ⟨54, _⟩ => ⟨S1024x100000, .f32⟩
  | .hbm, ⟨55, _⟩ => ⟨S1024x100000, .f32⟩
  | .hbm, ⟨56, _⟩ => ⟨S_, .f32⟩
  | .hbm, ⟨57, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_11 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_12 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.BitsNums.lean ====
/-
  The element numbers: row `r` asks for its target's element and for its first element, at `100000 r + t r` and `100000 r` of
  the flat table. With every target in its range both lie in the table and are what they say.
-/
module

public import proofs.«01_k».proof.Proof.BitsHost
public import Idealize.ShloMosaic.Lib.Pipeline.Value

@[expose] public section

noncomputable section

namespace Cert.Proof.KB

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

open Idealize.ShloMosaic.StableHlo

variable {F : FTy → Type} [FloatOps F]

local notation "𝕄" => MT nD τ sig (HIx 1) (Elt F) ℕ UU ℕ

variable (m : (ℓ : Loc nD τ sig) → Buf (Elt F) ℓ) (d : Dev nD)

/-- Every target is a column's number. -/
abbrev InRange : Prop := ∀ j, (arg1 m d j).toNat < 100000

theorem starts_toNat (j : S1024.Idx) : (starts j).toNat = 100000 * (j 0).val := by
  have h : (j 0).val < 1024 := (j 0).isLt
  show (BitVec.ofNat 32 (j 0).val * 100000#32).toNat = _
  rw [BitVec.toNat_mul, BitVec.toNat_ofNat, BitVec.toNat_ofNat]
  omega

/-- A row's place among the columns' two halves. -/
abbrev lo (r : Fin 1024) : S2048.Idx := ix1 ⟨r.val, by omega⟩
abbrev hi (r : Fin 1024) : S2048.Idx := ix1 ⟨1024 + r.val, by omega⟩

theorem nums_lo (r : Fin 1024) : nums m d (lo r) = starts (ix1 r) + arg1 m d (ix1 r) := by
  rw [nums_eq]
  exact concatenate_pair_apply_left (t := S2048) 0 (addi starts (arg1 m d)) starts concatenates_S1024_S1024_S2048_d0 (lo r) rfl (ix1 r) fun b => by match b with | ⟨0, _⟩ => rfl

theorem nums_hi (r : Fin 1024) : nums m d (hi r) = starts (ix1 r) := by
  rw [nums_eq]
  exact concatenate_pair_apply_right (t := S2048) 0 (addi starts (arg1 m d)) starts concatenates_S1024_S1024_S2048_d0 (hi r) rfl rfl (ix1 r) (fun b hb => by match b with | ⟨0, _⟩ => exact absurd rfl hb)
    (show r.val + 1024 = 1024 + r.val by omega)

theorem nums_lo_toNat (h : InRange m d) (r : Fin 1024) : (nums m d (lo r)).toNat = 100000 * r.val + (arg1 m d (ix1 r)).toNat := by
  have h1 := starts_toNat (ix1 r)
  have h2 := h (ix1 r)
  have h3 : (ix1 (n := 1024) r 0).val = r.val := rfl
  rw [nums_lo, BitVec.toNat_add]
  omega

theorem nums_hi_toNat (r : Fin 1024) : (nums m d (hi r)).toNat = 100000 * r.val := by
  rw [nums_hi]; exact starts_toNat (ix1 r)

/-- With the targets in range every element number lies in the table. -/
theorem inTable (h : ∀ d, InRange m d) : InTable (nums m) := by
  intro d j
  by_cases hj : (j 0).val < 1024
  · have e := nums_lo_toNat m d (h d) ⟨(j 0).val, hj⟩
    have hb := h d (ix1 ⟨(j 0).val, hj⟩)
    rw [show j = lo ⟨(j 0).val, hj⟩ from funext fun a => by match a with | ⟨0, _⟩ => rfl]
    omega
  · have hl : (j 0).val < 2048 := (j 0).isLt
    have e := nums_hi_toNat m d ⟨(j 0).val - 1024, by omega⟩
    rw [show j = hi ⟨(j 0).val - 1024, by omega⟩ from funext fun a => by match a with | ⟨0, _⟩ => exact Fin.ext (by show (j 0).val = 1024 + ((j 0).val - 1024); omega)]
    simp only at e
    omega

end Cert.Proof.KB

end
-- ==== Proof.IdealBase.lean ====
/-
  The launch as the run theorem sees it: the SparseCore call's configuration, the body tables, the resource algebra
  (the handshakes' rounds, the pipeline's rounds, the transfers' counters), and the names of the buffers.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type} [FloatOps F] [Named F]

/-- The labels of the two calls' bodies and of the pipeline's. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The body table under the SparseCore launch. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The handshakes' semaphores are distinct and unscoped, no buffer is shared by tasks, every call is a tile call. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipeline's rounds. -/
abbrev UP : Type := URounds (GSem nD τ sig) Unit
/-- The certificate's resource algebra. -/
abbrev UU : Type := UH × (UP × Counters)

/-- The machine's algebra over it. -/
abbrev MM (F : FTy → Type) : Type := MT nD τ sig (HIx 1) (Elt F) ℕ UU ℕ

local notation "𝕄" => MM F

/-- Where the handshakes' rounds sit. -/
abbrev EH : Emb UH (MM F) := embL
/-- Where the pipeline's rounds sit. -/
def EP : Emb UP (MM F) := (Emb.inl : Emb UP (UP × Counters)).trans embR

instance EP_landsIn : (EP : Emb UP 𝕄).LandsIn (upEmb : UEmb _ 𝕄) := by unfold EP; infer_instance

/-- The element index list, the flat table and the gathered values, as device `d` holds them. -/
abbrev iLoc (d : Dev nD) : Loc nD τ sig := (SparseCore.T d).loc main_v4
abbrev xLoc (d : Dev nD) : Loc nD τ sig := (SparseCore.T d).loc main_v5
abbrev oLoc (d : Dev nD) : Loc nD τ sig := (SparseCore.T d).loc main_v6

end Cert.Proof.KI

end
-- ==== Proof.IdealTile.lean ====
/-
  One task of the gather: a tile fetches its sixty-four element numbers, gathers those elements of the flat table, and
  writes them out. What the tile leaves in its piece of the result is the table read at its piece of the list.
-/
module

public import proofs.«01_k».proof.Proof.IdealBase

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v5_scv : Memref Cert.KernelIdeal.sig Kind.scVector Space.hbm Cert.KernelIdeal.S102400000 EltTy.f32)
local notation "iV" => (Memref.whole Cert.KernelIdeal.main_v4_scv : Memref Cert.KernelIdeal.sig Kind.scVector Space.hbm Cert.KernelIdeal.S2048 EltTy.i32)
local notation "oV" => (Memref.whole Cert.KernelIdeal.main_v6_scv : Memref Cert.KernelIdeal.sig Kind.scVector Space.hbm Cert.KernelIdeal.S2048 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64 EltTy.f32)

/-! ## The pieces of the list and of the result, one per tile -/

theorem pdiv : 32 ∣ S2048.size 0 := ⟨64, rfl⟩
/-- Piece `w` of the list and of the result: sixty-four consecutive places. -/
abbrev prow (w : Fin 32) : Rect S2048 := Rect.part (s := S2048) (a₀ := 0) pdiv w
abbrev iRowSet (w : Fin 32) : Finset S2048.Idx := ((iV).view.slice (prow w)).set
abbrev oRowSet (w : Fin 32) : Finset S2048.Idx := ((oV).view.slice (prow w)).set
/-- Tile `w`'s share of the table. -/
abbrev xq (w : Fin 32) : PosShare TreeShare := pieceOf fullShare 32 (by decide) w

/-- Place `n` of the flat table. -/
def flatIx (n : ℕ) : S102400000.Idx := fun a => ⟨n % S102400000.size a, Nat.mod_lt _ (by match a with | 0 => decide)⟩

/-- The table read at a list of places. -/
def gath {E : Type} (X : S102400000.Idx → E) (I : S2048.Idx → BitVec 32) : S2048.Idx → E := fun j => X (flatIx (I j).toNat)

/-! ## What the handshakes carry -/

variable (X : (d : Dev nD) → Buf (Elt F) (xLoc d)) (I : (d : Dev nD) → Buf (Elt F) (iLoc d)) (O₀ : (d : Dev nD) → Buf (Elt F) (oLoc d))

/-- What the call leaves in the result on device `d`. -/
abbrev O₁ (d : Dev nD) : Buf (Elt F) (oLoc d) := gath (X d) (I d)

abbrev iRowPts (d : Dev nD) (w : Fin 32) : sProp 𝕄 := iLoc d ↦[iRowSet w]{fullShare} I d
abbrev xShPts (d : Dev nD) (w : Fin 32) : sProp 𝕄 := xLoc d ↦{xq w} X d
abbrev oRowPts (d : Dev nD) (w : Fin 32) (f : Buf (Elt F) (oLoc d)) : sProp 𝕄 := oLoc d ↦[oRowSet w]{fullShare} f

/-- What tile `w` takes (`f` the old contents of the result) and brings back (`f` the gathered values). -/
abbrev load (f : (d : Dev nD) → Buf (Elt F) (oLoc d)) (d : Dev nD) (w : Fin 32) : sProp 𝕄 :=
  iprop(iRowPts I d w ∗ xShPts X d w ∗ oRowPts d w (f d))

/-- The piece of subcore `i` of SparseCore `c`. -/
def wid (c : Fin 2) (i : Fin 16) : Fin 32 := ⟨2 * i.val + c.val, by omega⟩

variable [FloatOps F] [Named F]

/-- The call sends each SparseCore its sixteen tiles' pieces and shares, and takes them back with the result's pieces at
    the gathered values. -/
def P : (K (F := F)).Pay (nD := nD) (Val := Elt F) (Name := ℕ) (U := UU) where
  st := fun q d c => match q with | 0 => bigSep Finset.univ fun i : Fin ((K (F := F)).nSub 0) => load X I O₀ d (wid (Fin.cast nCore_zero c) (Fin.cast nSub_zero i))
  dn := fun q d c => match q with | 0 => bigSep Finset.univ fun i : Fin ((K (F := F)).nSub 0) => load X I (O₁ X I) d (wid (Fin.cast nCore_zero c) (Fin.cast nSub_zero i))
  go := fun q d c i => match q with | 0 => load X I O₀ d (wid (Fin.cast nCore_zero c) (Fin.cast nSub_zero i))
  td := fun q d c i => match q with | 0 => load X I (O₁ X I) d (wid (Fin.cast nCore_zero c) (Fin.cast nSub_zero i))
  x := fun _ _ => iprop(emp)

instance P_storable : (P X I O₀).IsStorable where
  st q d c := match q with
    | 0 => (inferInstance : BI.Storable (upEmb : UEmb _ 𝕄)
      (bigSep Finset.univ fun i : Fin ((K (F := F)).nSub 0) => load X I O₀ d (wid (Fin.cast nCore_zero c) (Fin.cast nSub_zero i))))
  dn q d c := match q with
    | 0 => (inferInstance : BI.Storable (upEmb : UEmb _ 𝕄)
      (bigSep Finset.univ fun i : Fin ((K (F := F)).nSub 0) => load X I (O₁ X I) d (wid (Fin.cast nCore_zero c) (Fin.cast nSub_zero i))))
  go q d c i := match q with
    | 0 => (inferInstance : BI.Storable (upEmb : UEmb _ 𝕄) (load X I O₀ d (wid (Fin.cast nCore_zero c) (Fin.cast nSub_zero i))))
  td q d c i := match q with
    | 0 => (inferInstance : BI.Storable (upEmb : UEmb _ 𝕄) (load X I (O₁ X I) d (wid (Fin.cast nCore_zero c) (Fin.cast nSub_zero i))))

/-- The launch's hypothesis: every place the list names is a place of the table. -/
def InTable : Prop := ∀ (d : Dev nD) (j : S2048.Idx), (I d j).toNat < 102400000

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] [Named F] in
theorem bound_zero : grid0.bound 0 = 2 := rfl
omit [FloatOps F] [Named F] in
theorem bound_one : grid0.bound 1 = 16 := rfl
/-- The piece of the tile at coordinates `L`. -/
abbrev wL (L : grid0.Coords) : Fin 32 := wid (Fin.cast bound_zero (L 0)) (Fin.cast bound_one (L 1))

abbrev prowK (L : grid0.Coords) : Rect S2048 := Rect.unit (s := S2048) (k0_off1 L) S64.size (k0_off1_inb L)
/-- The tile's piece of the list and of the result, and all of the table, as the tile addresses them. -/
abbrev iRowK (L : grid0.Coords) : Memref sig .scVector .hbm S64 .i32 := (iV).slice (prowK L) (fun _ => rfl)
abbrev oRowK (L : grid0.Coords) : Memref sig .scVector .hbm S64 .f32 := (oV).slice (prowK L) (fun _ => rfl)
abbrev xAllK : Memref sig .scVector .hbm S102400000 .f32 := (xV).slice (Rect.unit (s := S102400000) ![0] S102400000.size inb_S102400000_S102400000_0) (fun _ => rfl)

omit [FloatOps F] [Named F] in
theorem prowK_eq : prowK L = prow (wL L) := by
  unfold prowK prow Rect.part Rect.block
  congr 1 <;> funext a
  · rw [k0_off1_eq]
    match a with
    | 0 =>
      show 128 * (L 1).val + 64 * (L 0).val = (2 * (L 1).val + (L 0).val) * 64
      omega
  · match a with
    | 0 => simp [Shape.partSize]

omit [FloatOps F] [Named F] in
theorem set_iRowK : (iRowK L).view.set = iRowSet (wL L) := by
  show ((iV).view.slice (prowK L)).set = ((iV).view.slice (prow (wL L))).set
  rw [prowK_eq]
omit [FloatOps F] [Named F] in
theorem set_oRowK : (oRowK L).view.set = oRowSet (wL L) := by
  show ((oV).view.slice (prowK L)).set = ((oV).view.slice (prow (wL L))).set
  rw [prowK_eq]

omit [FloatOps F] [Named F] in
theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
omit [FloatOps F] [Named F] in
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
omit [FloatOps F] [Named F] in
theorem pts_xV (q : PosShare TreeShare) (f : Buf (Elt F) (xLoc d)) :
    ((xV).view.loc (V d (cV L) (jV L)) ↦{q} f : sProp 𝕄) = xLoc d ↦{q} f := rfl
omit [FloatOps F] [Named F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] [Named F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The semaphores of the fetch, of the gather and of the write-out. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] [Named F] in
/-- The three semaphores are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] [Named F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the fetch lands in the index scratch is the tile's piece of the list. -/
theorem fetched (fs : Buf (Elt F) ((V d (cV L) (jV L)).loc cc0_scratch0)) (x : S64.Idx) :
    (sV).view.read (Elt F) (View.write (Elt F) (sV).view fs ((iRowK L).view.read (Elt F) (I d)) Finset.univ) x = I d ((iRowK L).view.emb x) := by
  rw [View.write_whole_univ]
  simp only [Memref.view_whole, View.read_whole]
  exact (View.read_apply _ _).trans (cast_eq _ _)

/-- Every place the gather reads is a place of the table. -/
theorem inb_of_pre (hpre : InTable I) (fs : Buf (Elt F) ((V d (cV L) (jV L)).loc cc0_scratch0)) (pay : S64.Idx → Elt F .i32)
    (hpay : pay = (iRowK L).view.read (Elt F) (I d)) :
    ∀ x, ((sV).view.read (Elt F) (View.write (Elt F) (sV).view fs pay Finset.univ) x).toNat < S102400000.size gathers_S102400000_S64.axis := by
  subst hpay; intro x
  rw [fetched]
  exact hpre d _

omit [FloatOps F] [Named F] in
/-- The row a list of sixty-four words names at place `x` is the word there. -/
theorem rows_val (g : S64.Idx → Elt F .i32) (h : ∀ x, (g x).toNat < S102400000.size gathers_S102400000_S64.axis) (x : S64.Idx) :
    (SparseCore.rows g (rfl : S64.numel = S64.size gathers_S102400000_S64.axis') h (x gathers_S102400000_S64.axis')).val = (g x).toNat := by
  unfold SparseCore.rows
  show (g (S64.rowMajor.symm _)).toNat = _
  congr 2
  rw [Equiv.symm_apply_eq]
  apply Fin.ext
  rw [Shape.rowMajor_val_one]
  rfl

/-- What the gather lands, at place `x` of the tile's piece: the table at the place the list names there. -/
theorem gathered (fs : Buf (Elt F) ((V d (cV L) (jV L)).loc cc0_scratch0)) (pay : S64.Idx → Elt F .i32)
    (hpay : pay = (iRowK L).view.read (Elt F) (I d))
    (hin : ∀ x, ((sV).view.read (Elt F) (View.write (Elt F) (sV).view fs pay Finset.univ) x).toNat < S102400000.size gathers_S102400000_S64.axis)
    (hpre : InTable I) (x : S64.Idx) :
    SparseCore.gatherPayload gathers_S102400000_S64 ((xAllK).view.read (Elt F) (X d))
        (SparseCore.rows ((sV).view.read (Elt F) (View.write (Elt F) (sV).view fs pay Finset.univ)) (rfl : S64.numel = S64.size gathers_S102400000_S64.axis') hin) x
      = O₁ X I d ((oRowK L).view.emb x) := by
  subst hpay
  unfold SparseCore.gatherPayload O₁ gath
  refine ((View.read_apply _ _).trans (cast_eq _ _)).trans ?_
  congr 1
  funext a
  match a with
  | ⟨0, _⟩ =>
    apply Fin.ext
    show 0 + 1 * (gathers_S102400000_S64.idx _ x gathers_S102400000_S64.axis).val = (I d ((oRowK L).view.emb x)).toNat % 102400000
    rw [Shape.Gathers.idx_axis]
    refine (congrArg (fun n => 0 + 1 * n) ((rows_val _ hin x).trans (congrArg BitVec.toNat (fetched I d L fs x)))).trans ?_
    rw [Nat.mod_eq_of_lt (hpre d _), Nat.zero_add, Nat.one_mul]
    rfl

/-- The tile's piece of the result written with values that are the gathered ones is at the gathered values. -/
theorem written (w : S64.Idx → Elt F .f32) (hw : ∀ x, w x = O₁ X I d ((oRowK L).view.emb x)) :
    ((oRowK L).view.loc (V d (cV L) (jV L)) ↦[(oRowK L).view.set]{fullShare} (oRowK L).view.writes (Elt F) (O₀ d) [⟨Rect.whole S64, w⟩] : sProp 𝕄)
      = (oRowK L).view.loc (V d (cV L) (jV L)) ↦[(oRowK L).view.set]{fullShare} O₁ X I d := by
  refine pointsTo_congr fun i hi => ?_
  obtain ⟨x, -, rfl⟩ := Finset.mem_map.1 hi
  have h := View.read_writes_cons_emb (oRowK L).view (O₀ d) (Rect.whole S64) w [] x
  rw [View.read_apply, cast_eq, Rect.emb_whole_apply] at h
  exact h.trans (hw x)

/-- The value scratch written with `w` reads as `w`. -/
theorem written_scratch (fr : Buf (Elt F) ((V d (cV L) (jV L)).loc cc0_scratch1)) (w : S64.Idx → Elt F .f32) (x : S64.Idx) :
    (rV).view.read (Elt F) ((rV).view.write (Elt F) fr w Finset.univ) x = w x := by
  rw [View.write_whole_univ]; rfl

set_option maxHeartbeats 4000000 in
/-- The task on vector subcore `(L 0, L 1)` of device `d`: the fetch of the tile's list, the gather, the write-out, each
    with its wait; the tile's piece of the result comes back at the gathered values. -/
theorem tile_body (hF : (K (F := F)).Facts) (hpre : InTable I) (O : CellTallies nD τ sig (HIx 1)) (W : Waits sig (HIx 1)) (hO : ∀ g, O g none = 0) :
    iprop(levAts (K (F := F)).L (K (F := F)).lev ∗ emp
        ∗ load X I O₀ d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(load X I (O₁ X I) d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather over the fetched list: a share of the table, the value scratch, the list's scratch, the semaphore
  ihave Hxs := (pointsTo_split_subset (q := xq (wL L)) (f := X d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 I d L) Finset.univ : sProp 𝕄)
      = (sV).view.loc (V d (cV L) (jV L)) ↦[(sV).view.set]{fullShare} View.write (Elt F) (sV).view fs (tile_body.sl.dma0 I d L) Finset.univ
      by rw [hss])) $$ Hs'
  have hN : ∀ h : S102400000.Gathers 0 S64, ∑ j, ((rV).slice (S64.rowRect h.axis' j) (S64.stride_rowRect h.axis' j)).view.dmaCredit
      = (rV).view.dmaCredit := by decide
  iapply (SparseCore.wp_indirectGatherLocal countersEmb 𝒱₀ (V d (cV L) (jV L)) none (hg := gathers_S102400000_S64) (default : HIx 1)
      (rV).view.dmaCredit (hN _) (by decide) (inb_of_pre I d L hpre fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (wL L)) (f := X d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (written X I O₀ d L _ fun x => (written_scratch d L fr _ x).trans (gathered X I d L fs _ rfl _ hpre x)))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The grid coordinates of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, from what the handshake brings it to what it sends back. -/
theorem tileObl (hF : (K (F := F)).Facts) (hpre : InTable I) : (K (F := F)).TileObl (D (F := F)) 𝒱 (P X I O₀) v₀ 0 := by
  intro d c i O W hO _ _
  simp only [show (P X I O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X I O₀ d (coordsV ⟨_, hci.1⟩ ⟨_, hci.2⟩) hF hpre O W hO).trans (wp_mono frame _ _ fun _ => obl_post)

end Tile

/-- A SparseCore's sequencer hands each tile its load and takes it back: nothing to split. -/
theorem vecSplit : (K (F := F)).VecSplit' (P X I O₀) 0 := by
  intro d c
  show (bigSep Finset.univ fun i : Fin ((K (F := F)).nSub 0) => load X I O₀ d (wid (Fin.cast nCore_zero c) (Fin.cast nSub_zero i)))
    ⊢ |={Set.univ}=> iprop((bigSep Finset.univ fun i : Fin ((K (F := F)).nSub 0) => load X I O₀ d (wid (Fin.cast nCore_zero c) (Fin.cast nSub_zero i)))
      ∗ ((bigSep Finset.univ fun i : Fin ((K (F := F)).nSub 0) => load X I (O₁ X I) d (wid (Fin.cast nCore_zero c) (Fin.cast nSub_zero i)))
          -∗ bigSep Finset.univ fun i : Fin ((K (F := F)).nSub 0) => load X I (O₁ X I) d (wid (Fin.cast nCore_zero c) (Fin.cast nSub_zero i))))
  iintro H; imodintro
  isplitl [H]; · iexact H
  iintro H; iexact H

/-! ## The whole buffers are the tiles' pieces and shares -/

omit [FloatOps F] [Named F] in
theorem iRowSet_eq (w : Fin 32) : iRowSet w = (prow w).set := by
  show ((View.whole (main_v4_scv : Ref sig .scVector)).slice (prow w)).set = _
  rw [View.set_slice]; exact Finset.map_refl
omit [FloatOps F] [Named F] in
theorem oRowSet_eq (w : Fin 32) : oRowSet w = (prow w).set := by
  show ((View.whole (main_v6_scv : Ref sig .scVector)).slice (prow w)).set = _
  rw [View.set_slice]; exact Finset.map_refl
omit [FloatOps F] [Named F] in
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet
    (fun i _ j _ h => by rw [iRowSet_eq, iRowSet_eq]; exact Rect.part_disjoint pdiv h),
    show (Finset.univ : Finset (Fin 32)).biUnion iRowSet = Finset.univ from
      (Finset.biUnion_congr rfl fun i _ => iRowSet_eq i).trans (Rect.biUnion_part pdiv)]; try rfl
omit [FloatOps F] [Named F] in
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet
    (fun i _ j _ h => by rw [oRowSet_eq, oRowSet_eq]; exact Rect.part_disjoint pdiv h),
    show (Finset.univ : Finset (Fin 32)).biUnion oRowSet = Finset.univ from
      (Finset.biUnion_congr rfl fun i _ => oRowSet_eq i).trans (Rect.biUnion_part pdiv)]; try rfl

/-- The tiles and the pieces are one and the same count. -/
def tilesEquiv : Fin 2 × Fin 16 ≃ Fin 32 where
  toFun p := wid p.1 p.2
  invFun w := (⟨w.val % 2, by omega⟩, ⟨w.val / 2, by omega⟩)
  left_inv p := by
    obtain ⟨c, i⟩ := p
    ext <;> simp only [wid] <;> omega
  right_inv w := by ext; simp only [wid]; omega

omit [FloatOps F] [Named F] in
/-- The list, the table and the result, held whole, are the thirty-two loads. -/
theorem whole_loads (f : (d : Dev nD) → Buf (Elt F) (oLoc d)) (d : Dev nD) :
    (iprop((iLoc d ↦{fullShare} I d) ∗ (xLoc d ↦{fullShare} X d) ∗ oLoc d ↦{fullShare} f d) : sProp 𝕄)
      = bigSep Finset.univ fun w : Fin 32 => load X I f d w := by
  unfold load iRowPts xShPts oRowPts
  rw [bigSep_sep', bigSep_sep', ← iPts_rows, ← oPts_rows, ← pointsTo_piecesOf Finset.univ (X d) (by decide) fullShare]

/-- What the two SparseCores are sent, or send back, is the three buffers held whole. -/
theorem cores_loads (f : (d : Dev nD) → Buf (Elt F) (oLoc d)) (d : Dev nD) :
    (bigSep Finset.univ fun c : Fin ((K (F := F)).nCore 0) => bigSep Finset.univ fun i : Fin ((K (F := F)).nSub 0) =>
        (load X I f d (wid (Fin.cast nCore_zero c) (Fin.cast nSub_zero i)) : sProp 𝕄))
      = iprop((iLoc d ↦{fullShare} I d) ∗ (xLoc d ↦{fullShare} X d) ∗ oLoc d ↦{fullShare} f d) := by
  rw [whole_loads, bigSep_univ_equiv tilesEquiv, bigSep_univ_prod]
  rfl

end Cert.Proof.KI

end
-- ==== Proof.IdealBody.lean ====
/-
  The TensorCore kernel's body at one grid point. It adds up the four fetched blocks' rows and stores the sixty-four sums in
  the scratch column; at the last point it also combines the whole column with the gathered values into the result.
-/
module

public import proofs.«01_k».proof.Proof.IdealBase
public import Idealize.ShloMosaic.Lib.Pipeline.FrameBody
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The scratch column. -/
abbrev accM : Memref sig .tc .vmem S1024x1 .f32 := Memref.whole cc1_scratch0

/-- A load of everything a view shows is the view read. -/
theorem readAt_full {κ : Kind} {sp : Space} {r : ℕ} {dd : Fin r → ℕ} {e : EltTy} (v : View sig κ sp ⟨r, dd⟩ e) (f : v.ty.Contents (Elt F))
    {off : Fin r → ℕ} (h : off = fun _ => 0) (inb : ∀ a, off a + dd a ≤ dd a) :
    v.readAt (Elt F) (Rect.unit (s := ⟨r, dd⟩) off dd inb).toLoadRect f = v.read (Elt F) f :=
  (View.readAt_eq_ld v f _).trans (View.ld_unit_zero h inb _)

theorem off00 : (![0, 0] : Fin 2 → ℕ) = fun _ => 0 := by funext a; fin_cases a <;> rfl

/-- The scratch column `f` with the four blocks' row sums stored at point `i`'s places. -/
def stored (i : grid1.Coords) (x1 x2 x3 x4 : Vec F S16x100000 .f32) (f : S1024x1.Idx → F .f32) : S1024x1.Idx → F .f32 :=
  (accM).view.writes (Elt F) f
    [⟨Rect.unit (s := S1024x1) (k1_off1 i 48#32) S16x1.size (k1_off1_inb i 3), k1_pay1 (k1_pay6 x4)⟩,
     ⟨Rect.unit (s := S1024x1) (k1_off1 i 32#32) S16x1.size (k1_off1_inb i 2), k1_pay5 x3⟩,
     ⟨Rect.unit (s := S1024x1) (k1_off1 i 16#32) S16x1.size (k1_off1_inb i 1), k1_pay4 x2⟩,
     ⟨Rect.unit (s := S1024x1) (k1_off1 i 0#32) S16x1.size (k1_off1_inb i 0), k1_pay3 x1⟩]

section Run

variable (c : Dev nD) (i : grid1.Coords)
    (M1 : Memref sig .tc .vmem S16x100000 .f32) (h1 : M1.IsWhole) (M2 : Memref sig .tc .vmem S16x100000 .f32) (h2 : M2.IsWhole)
    (M3 : Memref sig .tc .vmem S16x100000 .f32) (h3 : M3.IsWhole) (M4 : Memref sig .tc .vmem S16x100000 .f32) (h4 : M4.IsWhole)
    (M5 : Memref sig .tc .vmem S1024x1 .i32) (h5 : M5.IsWhole) (M6 : Memref sig .tc .vmem S1024x1 .f32) (h6 : M6.IsWhole)
    (M7 : Memref sig .tc .vmem S1024x1 .f32) (h7 : M7.IsWhole) (M8 : Memref sig .tc .vmem S1x1 .f32) (h8 : M8.IsWhole)
    (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8)
    (f9 : S1024x1.Idx → F .f32) (E : Set ℕ)

/-- The scratch column after point `i`, of the four staged blocks. -/
abbrev storedOf : S1024x1.Idx → F .f32 :=
  stored i (M1.view.read (Elt F) f1) (M2.view.read (Elt F) f2) (M3.view.read (Elt F) f3) (M4.view.read (Elt F) f4) f9

/-- A point before the last: the four blocks kept, the scratch column with their sums stored. -/
theorem run_mid (hi : ¬ k1_cond1 i = 1#1) (Q : PUnit → sProp 𝕄) :
    iprop(pt c M1 f1 ∗ pt c M2 f2 ∗ pt c M3 f3 ∗ pt c M4 f4 ∗ pt c accM f9
        ∗ (iprop(pt c M1 f1 ∗ pt c M2 f2 ∗ pt c M3 f3 ∗ pt c M4 f4 ∗ pt c accM (storedOf c i M1 M2 M3 M4 f1 f2 f3 f4 f9)) -∗ Q ⟨⟩))
      ⊢ wp frame (wpE (defs₀ (F := F)) Variants.none c none) E
          (cc1__loss_body i M1 h1 M2 h2 M3 h3 M4 h4 M5 h5 M6 h6 M7 h7 M8 h8 accM (Memref.isWhole_whole _)) Q := by
  have e1 := readAt_full (F := F) M1.view f1 off00 inb_S16x100000_S16x100000_0_0
  have e2 := readAt_full (F := F) M2.view f2 off00 inb_S16x100000_S16x100000_0_0
  have e3 := readAt_full (F := F) M3.view f3 off00 inb_S16x100000_S16x100000_0_0
  have e4 := readAt_full (F := F) M4.view f4 off00 inb_S16x100000_S16x100000_0_0
  simp only [cc1__loss_body_eq_skeleton]; unfold cc1__loss_body_skel
  simp only [k1_part1_eq_skeleton]; unfold k1_part1_skel
  iintro ⟨H1, H2, H3, H4, H9, Hk⟩
  sl_exec
  sl_step
  iapply Hk
  isplitl [H1]; · iexact H1
  isplitl [H2]; · iexact H2
  isplitl [H3]; · iexact H3
  isplitl [H4]; · iexact H4
  iexact H9

set_option maxHeartbeats 1000000 in
/-- The last point: besides, the result's block at the combination of the whole column and the gathered values. -/
theorem run_last (hi : k1_cond1 i = 1#1) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c accM f9
        ∗ (iprop(pt c M1 f1 ∗ pt c M2 f2 ∗ pt c M3 f3 ∗ pt c M4 f4 ∗ pt c M5 f5 ∗ pt c M6 f6 ∗ pt c M7 f7
            ∗ (∃ g, ⌜M8.view.read (Elt F) g = k1_pay2 (storedOf c i M1 M2 M3 M4 f1 f2 f3 f4 f9) (M6.view.read (Elt F) f6) (M7.view.read (Elt F) f7) (M5.view.read (Elt F) f5)⌝ ∗ pt c M8 g)
            ∗ pt c accM (storedOf c i M1 M2 M3 M4 f1 f2 f3 f4 f9)) -∗ Q ⟨⟩))
      ⊢ wp frame (wpE (defs₀ (F := F)) Variants.none c none) E
          (cc1__loss_body i M1 h1 M2 h2 M3 h3 M4 h4 M5 h5 M6 h6 M7 h7 M8 h8 accM (Memref.isWhole_whole _)) Q := by
  have e1 := readAt_full (F := F) M1.view f1 off00 inb_S16x100000_S16x100000_0_0
  have e2 := readAt_full (F := F) M2.view f2 off00 inb_S16x100000_S16x100000_0_0
  have e3 := readAt_full (F := F) M3.view f3 off00 inb_S16x100000_S16x100000_0_0
  have e4 := readAt_full (F := F) M4.view f4 off00 inb_S16x100000_S16x100000_0_0
  have e5 := readAt_full (F := F) M5.view f5 off00 inb_S1024x1_S1024x1_0_0
  have e6 := readAt_full (F := F) M6.view f6 off00 inb_S1024x1_S1024x1_0_0
  have e7 := readAt_full (F := F) M7.view f7 off00 inb_S1024x1_S1024x1_0_0
  simp only [cc1__loss_body_eq_skeleton]; unfold cc1__loss_body_skel
  simp only [k1_part1_eq_skeleton]; unfold k1_part1_skel
  iintro ⟨H1, H2, H3, H4, H5, H6, H7, H8, H9, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8)
    ipureintro
    funext y
    refine (View.read_writes_cons_hit_of_coords _ _ _ _ _ (y : S1x1.Idx) y ?_).trans ?_
    · intro a; match a with
      | 0 => simp
      | 1 => simp
    · rw [readAt_full (F := F) (accM).view _ off00 inb_S1024x1_S1024x1_0_0]; rfl
  iexact H9

end Run

end Cert.Proof.KI

end
-- ==== Proof.IdealRows.lean ====
/-
  The scratch column of the TensorCore kernel: which rows' sums it holds after each grid point, and that after the last it
  holds every row's.
-/
module

public import proofs.«01_k».proof.Proof.IdealBody
public import Idealize.ShloMosaic.Lib.ValueIdx

@[expose] public section

noncomputable section

namespace Cert.Proof.KI

open Cert.KernelIdeal Cert.KernelIdeal.Gen
open Idealize.ShloMosaic Idealize.ShloMosaic.TcCoe Idealize.ShloMosaic.ValueIdx

variable {F : FTy → Type} [FloatOps F] [Named F]

/-- The sixteen rows of `A` from row `16 n` on. -/
def rowBlk {E : Type} (A : S1024x100000.Idx → E) (n : ℕ) : S16x100000.Idx → E :=
  fun x => A (ix2 (n0 := 1024) (n1 := 100000) ⟨(16 * n + (x 0).val) % 1024, Nat.mod_lt _ (by decide)⟩ (x 1))

/-- Where row `j`'s sum sits among its block's sixteen. -/
def pick (j : S1024x1.Idx) : S16x1.Idx := ix2 (n0 := 16) (n1 := 1) ⟨(j 0).val % 16, Nat.mod_lt _ (by decide)⟩ 0

/-- Every row's sum, as the body adds it up: over the block of sixteen rows that the row is in. -/
def rowSums (A : S1024x100000.Idx → F .f32) : S1024x1.Idx → F .f32 := fun j => k1_pay3 (rowBlk A ((j 0).val / 16)) (pick j)

/-- The scratch column `f` holds the sums of the rows that the first `t` points take. -/
def Done (A : S1024x100000.Idx → F .f32) (t : ℕ) (f : S1024x1.Idx → F .f32) : Prop :=
  ∀ j : S1024x1.Idx, (j 0).val % 256 / 16 < t → f j = rowSums A j

/-- Where point `i` stores its `r`-th block's sums. -/
abbrev place (i : grid1.Coords) (r : Fin 4) : Rect S1024x1 :=
  Rect.unit (s := S1024x1) (k1_off1 i (BitVec.ofNat 32 (16 * r.val))) S16x1.size (k1_off1_inb i r)

theorem place_off0 (i : grid1.Coords) (r : Fin 4) : (place i r).off 0 = 16 * (i 0).val + 256 * r.val := congrFun (k1_off1_eq i r) 0
theorem place_off1 (i : grid1.Coords) (r : Fin 4) : (place i r).off 1 = 0 := congrFun (k1_off1_eq i r) 1

/-- A row outside the place a store goes to keeps what it held. -/
theorem stored_miss (i : grid1.Coords) (r : Fin 4) (w : (place i r).shape.Idx → F .f32) (L : List (View.Piece (Elt F) S1024x1 .f32))
    (f : S1024x1.Idx → F .f32) (j : S1024x1.Idx) (h : (j 0).val < 16 * (i 0).val + 256 * r.val ∨ 16 * (i 0).val + 256 * r.val + 16 ≤ (j 0).val) :
    (accM).view.read (Elt F) ((accM).view.writes (Elt F) f (⟨place i r, w⟩ :: L)) j = (accM).view.read (Elt F) ((accM).view.writes (Elt F) f L) j :=
  View.read_writes_cons_miss_of_axis _ _ _ _ j 0 _ 16 (place_off0 i r) rfl rfl h

/-- A row inside it holds its sum. -/
theorem stored_hit (i : grid1.Coords) (r : Fin 4) (w : (place i r).shape.Idx → F .f32) (L : List (View.Piece (Elt F) S1024x1 .f32))
    (f : S1024x1.Idx → F .f32) (j : S1024x1.Idx) (h : (j 0).val = 16 * (i 0).val + 256 * r.val + (j 0).val % 16) :
    (accM).view.read (Elt F) ((accM).view.writes (Elt F) f (⟨place i r, w⟩ :: L)) j = w (pick j) := by
  refine View.read_writes_cons_hit_of_coords (accM).view f (place i r) w L (pick j) j fun a => ?_
  have h1 : (j 1).val < 1 := idx2_lt1 (n0 := 1024) (n1 := 1) j
  match a with
  | ⟨0, _⟩ =>
    have := place_off0 i r
    show (j 0).val = (place i r).off 0 + 1 * ((j 0).val % 16)
    omega
  | ⟨1, _⟩ =>
    have := place_off1 i r
    show (j 1).val = (place i r).off 1 + 1 * 0
    omega

/-- One point's stores: the sums of its four blocks of rows join those of the points before. -/
theorem Done.step {A : S1024x100000.Idx → F .f32} {i : grid1.Coords} {f : S1024x1.Idx → F .f32} (h : Done A (i 0).val f) :
    Done A ((i 0).val + 1)
      (stored i (rowBlk A (i 0).val) (rowBlk A ((i 0).val + 16)) (rowBlk A ((i 0).val + 32)) (rowBlk A ((i 0).val + 48)) f) := by
  intro j hj
  have hi : (i 0).val < 16 := (i 0).isLt
  have hn : (j 0).val < 1024 := idx2_lt0 (n0 := 1024) (n1 := 1) j
  show (accM).view.read (Elt F) ((accM).view.writes (Elt F) f
    [⟨place i 3, k1_pay3 (rowBlk A ((i 0).val + 48))⟩, ⟨place i 2, k1_pay3 (rowBlk A ((i 0).val + 32))⟩,
     ⟨place i 1, k1_pay3 (rowBlk A ((i 0).val + 16))⟩, ⟨place i 0, k1_pay3 (rowBlk A (i 0).val)⟩]) j = _
  unfold rowSums
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  by_cases hlt : (j 0).val % 256 / 16 < (i 0).val
  · rw [stored_miss i 3 _ _ _ _ (by omega), stored_miss i 2 _ _ _ _ (by omega), stored_miss i 1 _ _ _ _ (by omega),
      stored_miss i 0 _ _ _ _ (by omega)]
    exact h j hlt
  · have hq : (j 0).val / 256 = 0 ∨ (j 0).val / 256 = 1 ∨ (j 0).val / 256 = 2 ∨ (j 0).val / 256 = 3 := by omega
    rcases hq with hq | hq | hq | hq
    · rw [stored_miss i 3 _ _ _ _ (by omega), stored_miss i 2 _ _ _ _ (by omega), stored_miss i 1 _ _ _ _ (by omega),
        stored_hit i 0 _ _ _ _ (by omega), show (j 0).val / 16 = (i 0).val by omega]
    · rw [stored_miss i 3 _ _ _ _ (by omega), stored_miss i 2 _ _ _ _ (by omega), stored_hit i 1 _ _ _ _ (by omega),
        show (j 0).val / 16 = (i 0).val + 16 by omega]
    · rw [stored_miss i 3 _ _ _ _ (by omega), stored_hit i 2 _ _ _ _ (by omega), show (j 0).val / 16 = (i 0).val + 32 by omega]
    · rw [stored_hit i 3 _ _ _ _ (by omega), show (j 0).val / 16 = (i 0).val + 48 by omega]

/-- After sixteen points the column is every row's sum. -/
theorem Done.all {A : S1024x100000.Idx → F .f32} {f : S1024x1.Idx → F .f32} (h : Done A 16 f) : f = rowSums A :=
  funext fun j => h j (by omega)

end Cert.Proof.KI

end
-- ==== Proof.IdealRegion.lean ====
/-
  The TensorCore kernel's region of the program: its proof data, the obligation of its body at each grid point, and the region
  entered from any contents of the arrays and left with the result's array at the combination of the row sums with the
  gathered values.
-/
module

public import proofs.«01_k».proof.Proof.IdealRows

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- What the kernel computes of the arrays `V`: the combination of the row sums, the gathered values and the targets. -/
def loss (c : Dev nD) : S1x1.Idx → F .f32 :=
  k1_pay2 (rowSums (V c main_arg0)) (V c main_v8) (V c main_v10) (V c main_v11)

/-- The (semaphore, index) pairs the core may have waited on before the region: those at or below the first call's end. -/
abbrev recd (c : Dev nD) : Set (SemLoc sig × HIx 1) := {p | (K (F := F)).lev ((c : Thread nD τ), p.1) p.2 ≤ 8 * 1}

/-- The region's proof data at entry contents `V`: the input blocks as fetched, the result's block at `loss`, and between the
    points the scratch column with the sums of the points so far. -/
def dat (c : Dev nD) : Dat τ (Elt F) (HIx 1) ℕ UU ℕ cfg1 c where
  A w := V c (Pipeline.arrRef spec1 w)
  after w t := match w with
    | ⟨0, _⟩ => rowBlk (V c main_arg0) t.val
    | ⟨1, _⟩ => rowBlk (V c main_arg0) (t.val + 16)
    | ⟨2, _⟩ => rowBlk (V c main_arg0) (t.val + 32)
    | ⟨3, _⟩ => rowBlk (V c main_arg0) (t.val + 48)
    | ⟨4, _⟩ => V c main_v11
    | ⟨5, _⟩ => V c main_v8
    | ⟨6, _⟩ => V c main_v10
    | ⟨7, _⟩ => loss V c
  Φ t := iprop(∃ f : S1024x1.Idx → F .f32, ⌜Done (V c main_arg0) t.val f⌝ ∗ pt (F := F) c accM f)
  q w := Pipeline.shareOf spec1 w
  owed _ := 0
  recorded _ := recd (F := F) c

theorem coords_val : ∀ t : Fin grid1.N, (grid1.coords t 0).val = t.val := by decide +kernel
theorem cond_iff : ∀ t : Fin grid1.N, k1_cond1 (grid1.coords t) = 1#1 ↔ t.val = 15 := by decide +kernel
theorem index1_0 : ∀ t : Fin grid1.N, cc1_transform_0 (grid1.coords t) 0 = t.val ∧ cc1_transform_0 (grid1.coords t) 1 = 0 := by decide +kernel
theorem index1_1 : ∀ t : Fin grid1.N, cc1_transform_1 (grid1.coords t) 0 = t.val + 16 ∧ cc1_transform_1 (grid1.coords t) 1 = 0 := by decide +kernel
theorem index1_2 : ∀ t : Fin grid1.N, cc1_transform_2 (grid1.coords t) 0 = t.val + 32 ∧ cc1_transform_2 (grid1.coords t) 1 = 0 := by decide +kernel
theorem index1_3 : ∀ t : Fin grid1.N, cc1_transform_3 (grid1.coords t) 0 = t.val + 48 ∧ cc1_transform_3 (grid1.coords t) 1 = 0 := by decide +kernel

/-- A block of sixteen rows at row-block `n`, read through any place with the same coordinates. -/
theorem rowBlk_eq {E : Type} (A : S1024x100000.Idx → E) (n : ℕ) (hn : n < 64) (g : S16x100000.Idx → S1024x100000.Idx)
    (h0 : ∀ x, (g x 0).val = n * 16 + (x 0).val) (h1 : ∀ x, (g x 1).val = 0 * 100000 + (x 1).val) : (fun x => A (g x)) = rowBlk A n := by
  funext x
  unfold rowBlk
  refine congrArg A (funext fun a => Fin.ext ?_)
  have hx : (x 0).val < 16 := idx2_lt0 (n0 := 16) (n1 := 100000) x
  match a with
  | ⟨0, _⟩ => exact (h0 x).trans (by show n * 16 + (x 0).val = (16 * n + (x 0).val) % 1024; omega)
  | ⟨1, _⟩ => exact (h1 x).trans (by show 0 * 100000 + (x 1).val = (x 1).val; omega)

theorem block_0 (c : Dev nD) (t : Fin cfg1.N) : (dat V c).blockOf 0 t = rowBlk (V c main_arg0) t.val :=
  rowBlk_eq (V c main_arg0) t.val (by have := t.isLt; have := N_1; have : cfg1.N = 16 := this; omega) (fun x => (win1_0.rect t).emb x)
    (fun x => (win1_0.rect_emb_val t x 0).trans (by rw [show win1_0.index t 0 = t.val from (index1_0 t).1]; rfl))
    (fun x => (win1_0.rect_emb_val t x 1).trans (by rw [show win1_0.index t 1 = 0 from (index1_0 t).2]; rfl))
theorem block_1 (c : Dev nD) (t : Fin cfg1.N) : (dat V c).blockOf 1 t = rowBlk (V c main_arg0) (t.val + 16) :=
  rowBlk_eq (V c main_arg0) (t.val + 16) (by have := t.isLt; have := N_1; have : cfg1.N = 16 := this; omega) (fun x => (win1_1.rect t).emb x)
    (fun x => (win1_1.rect_emb_val t x 0).trans (by rw [show win1_1.index t 0 = t.val + 16 from (index1_1 t).1]; rfl))
    (fun x => (win1_1.rect_emb_val t x 1).trans (by rw [show win1_1.index t 1 = 0 from (index1_1 t).2]; rfl))
theorem block_2 (c : Dev nD) (t : Fin cfg1.N) : (dat V c).blockOf 2 t = rowBlk (V c main_arg0) (t.val + 32) :=
  rowBlk_eq (V c main_arg0) (t.val + 32) (by have := t.isLt; have := N_1; have : cfg1.N = 16 := this; omega) (fun x => (win1_2.rect t).emb x)
    (fun x => (win1_2.rect_emb_val t x 0).trans (by rw [show win1_2.index t 0 = t.val + 32 from (index1_2 t).1]; rfl))
    (fun x => (win1_2.rect_emb_val t x 1).trans (by rw [show win1_2.index t 1 = 0 from (index1_2 t).2]; rfl))
theorem block_3 (c : Dev nD) (t : Fin cfg1.N) : (dat V c).blockOf 3 t = rowBlk (V c main_arg0) (t.val + 48) :=
  rowBlk_eq (V c main_arg0) (t.val + 48) (by have := t.isLt; have := N_1; have : cfg1.N = 16 := this; omega) (fun x => (win1_3.rect t).emb x)
    (fun x => (win1_3.rect_emb_val t x 0).trans (by rw [show win1_3.index t 0 = t.val + 48 from (index1_3 t).1]; rfl))
    (fun x => (win1_3.rect_emb_val t x 1).trans (by rw [show win1_3.index t 1 = 0 from (index1_3 t).2]; rfl))

/-- A whole array read through any place with the same coordinates is the array. -/
theorem col_eq {E : Type} {n0 n1 : ℕ} (A : (⟨2, ![n0, n1]⟩ : Shape).Idx → E) (g : (⟨2, ![n0, n1]⟩ : Shape).Idx → (⟨2, ![n0, n1]⟩ : Shape).Idx)
    (h : ∀ x a, (g x a).val = (x a).val) : (fun x => A (g x)) = A :=
  funext fun x => congrArg A (funext fun a => Fin.ext (h x a))

theorem block_4 (c : Dev nD) (t : Fin cfg1.N) : (dat V c).blockOf 4 t = V c main_v11 :=
  col_eq (V c main_v11) (fun x => (win1_4.rect t).emb x) fun x a => win1_4.rect_emb_val_of_index_zero t a (by match a with | ⟨0, _⟩ => rfl | ⟨1, _⟩ => rfl) x
theorem block_5 (c : Dev nD) (t : Fin cfg1.N) : (dat V c).blockOf 5 t = V c main_v8 :=
  col_eq (V c main_v8) (fun x => (win1_5.rect t).emb x) fun x a => win1_5.rect_emb_val_of_index_zero t a (by match a with | ⟨0, _⟩ => rfl | ⟨1, _⟩ => rfl) x
theorem block_6 (c : Dev nD) (t : Fin cfg1.N) : (dat V c).blockOf 6 t = V c main_v10 :=
  col_eq (V c main_v10) (fun x => (win1_6.rect t).emb x) fun x a => win1_6.rect_emb_val_of_index_zero t a (by match a with | ⟨0, _⟩ => rfl | ⟨1, _⟩ => rfl) x

section Before

variable (c : Dev nD) (t : Fin cfg1.N)

theorem before_0 (d) : (dat V c).before 0 t d = rowBlk (V c main_arg0) t.val :=
  ((dat V c).before_in_eq_fetched 0 rfl (fun _ => rfl) (fun _ _ _ => rfl) (fun t => (block_0 V c t).symm) t d).trans (block_0 V c t)
theorem before_1 (d) : (dat V c).before 1 t d = rowBlk (V c main_arg0) (t.val + 16) :=
  ((dat V c).before_in_eq_fetched 1 rfl (fun _ => rfl) (fun _ _ _ => rfl) (fun t => (block_1 V c t).symm) t d).trans (block_1 V c t)
theorem before_2 (d) : (dat V c).before 2 t d = rowBlk (V c main_arg0) (t.val + 32) :=
  ((dat V c).before_in_eq_fetched 2 rfl (fun _ => rfl) (fun _ _ _ => rfl) (fun t => (block_2 V c t).symm) t d).trans (block_2 V c t)
theorem before_3 (d) : (dat V c).before 3 t d = rowBlk (V c main_arg0) (t.val + 48) :=
  ((dat V c).before_in_eq_fetched 3 rfl (fun _ => rfl) (fun _ _ _ => rfl) (fun t => (block_3 V c t).symm) t d).trans (block_3 V c t)
theorem before_4 (d) : (dat V c).before 4 t d = V c main_v11 :=
  ((dat V c).before_in_eq_fetched 4 rfl (fun _ => rfl) (fun _ _ _ => rfl) (fun t => (block_4 V c t).symm) t d).trans (block_4 V c t)
theorem before_5 (d) : (dat V c).before 5 t d = V c main_v8 :=
  ((dat V c).before_in_eq_fetched 5 rfl (fun _ => rfl) (fun _ _ _ => rfl) (fun t => (block_5 V c t).symm) t d).trans (block_5 V c t)
theorem before_6 (d) : (dat V c).before 6 t d = V c main_v10 :=
  ((dat V c).before_in_eq_fetched 6 rfl (fun _ => rfl) (fun _ _ _ => rfl) (fun t => (block_6 V c t).symm) t d).trans (block_6 V c t)

end Before

end Cert.Proof.KI

end
-- ==== Proof.IdealObl.lean ====
/-
  The obligation of the TensorCore kernel's body: at each grid point, from the blocks as fetched and the scratch column with the
  sums of the points before, it leaves the column with this point's sums too, and at the last point the result's block.
-/
module

public import proofs.«01_k».proof.Proof.IdealRegion

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- One point's stores, at the point's own number. -/
theorem done_step (c : Dev nD) (t : Fin cfg1.N) {f : S1024x1.Idx → F .f32} (h : Done (V c main_arg0) t.val f) :
    Done (V c main_arg0) (t.val + 1)
      (stored (grid1.coords t) (rowBlk (V c main_arg0) t.val) (rowBlk (V c main_arg0) (t.val + 16)) (rowBlk (V c main_arg0) (t.val + 32))
        (rowBlk (V c main_arg0) (t.val + 48)) f) := by
  have e := coords_val t
  have h' : Done (V c main_arg0) (grid1.coords t 0).val f := by rw [e]; exact h
  have := h'.step
  rwa [e] at this

/-- At a point that is not idle for a window the body leaves its buffer as the proof data says. -/
theorem leaves_live (c : Dev nD) (t : Fin cfg1.N) (w : Fin cfg1.W) (h : cfg1.idle w (cfg1.grid.coords t) = false) :
    (dat V c).leavesExact w t = owns c ((cfg1.win w).stage (cfg1.slots t w)) fullShare ((dat V c).after w t) := by
  unfold Dat.leavesExact; rw [h]

theorem obl_mid (c : Dev nD) (t : Fin cfg1.N) (ht : t.val ≠ 15) :
    iprop((dat V c).Φ t.castSucc ∗ (dat V c).owesAt none t.castSucc
        ∗ bigSep Finset.univ fun w : Fin cfg1.W => iprop(∃ d, owns c ((cfg1.win w).stage (cfg1.slots t w)) fullShare ((dat V c).before w t d)))
      ⊢ wp frame (wpE (defs₀ (F := F)) Variants.none c none) Set.univ (bodyAt1 t) fun _ =>
          iprop((dat V c).Φ t.succ ∗ (dat V c).owesAt none t.succ ∗ bigSep Finset.univ fun w : Fin cfg1.W => (dat V c).leavesExact w t) := by
  have hc : ¬ k1_cond1 (grid1.coords t) = 1#1 := fun h => ht ((cond_iff t).mp h)
  have hid : cfg1.idle 7 (cfg1.grid.coords t) = true := by
    show (!(k1_cond1 (grid1.coords t) == 1#1)) = true
    rw [beq_eq_false_iff_ne.mpr hc]; rfl
  have hN : t.val < 16 := lt_of_lt_of_eq t.isLt N_1
  have hfl : (cfg1.win 7).flush t = false := by
    rw [← Bool.not_eq_true, flush1_7]; omega
  rw [bigSep_W1, bigSep_W1, (dat V c).leavesExact_idle 7 t hid hfl, leaves_live V c t 0 rfl, leaves_live V c t 1 rfl, leaves_live V c t 2 rfl, leaves_live V c t 3 rfl, leaves_live V c t 4 rfl, leaves_live V c t 5 rfl, leaves_live V c t 6 rfl]
  rw [show (dat V c).owesAt none t.succ = (dat V c).owesAt none t.castSucc from rfl,
    show (dat V c).Φ t.castSucc = iprop(∃ f : S1024x1.Idx → F .f32, ⌜Done (V c main_arg0) t.val f⌝ ∗ pt (F := F) c accM f) from rfl,
    show (dat V c).Φ t.succ = iprop(∃ f : S1024x1.Idx → F .f32, ⌜Done (V c main_arg0) (t.val + 1) f⌝ ∗ pt (F := F) c accM f) from rfl]
  unfold owns
  iintro ⟨⟨%f, %hf, H9⟩, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  rw [before_0] at h0; rw [before_1] at h1; rw [before_2] at h2; rw [before_3] at h3
  rw [before_4] at h4; rw [before_5] at h5; rw [before_6] at h6
  have hst := done_step V c t hf
  rw [← h0, ← h1, ← h2, ← h3] at hst
  iapply (run_mid c (grid1.coords t) _ _ _ _ _ _ _ _ _ _ _ _ _ _ _ _ f0 f1 f2 f3 f _ hc _)
  isplitl [H0]; · iexact H0
  isplitl [H1]; · iexact H1
  isplitl [H2]; · iexact H2
  isplitl [H3]; · iexact H3
  isplitl [H9]; · iexact H9
  iintro ⟨H0, H1, H2, H3, H9⟩
  isplitl [H9]
  · iexists _; isplitr; swap; (· iexact H9)
    ipureintro; exact hst
  isplitl [Howes]; · iexact Howes
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  iexists d7, f7; isplitr; swap; (· iexact H7); ipureintro; exact h7

theorem obl_last (c : Dev nD) (t : Fin cfg1.N) (ht : t.val = 15) :
    iprop((dat V c).Φ t.castSucc ∗ (dat V c).owesAt none t.castSucc
        ∗ bigSep Finset.univ fun w : Fin cfg1.W => iprop(∃ d, owns c ((cfg1.win w).stage (cfg1.slots t w)) fullShare ((dat V c).before w t d)))
      ⊢ wp frame (wpE (defs₀ (F := F)) Variants.none c none) Set.univ (bodyAt1 t) fun _ =>
          iprop((dat V c).Φ t.succ ∗ (dat V c).owesAt none t.succ ∗ bigSep Finset.univ fun w : Fin cfg1.W => (dat V c).leavesExact w t) := by
  have hc : k1_cond1 (grid1.coords t) = 1#1 := (cond_iff t).mpr ht
  have hid : cfg1.idle 7 (cfg1.grid.coords t) = false := by
    show (!(k1_cond1 (grid1.coords t) == 1#1)) = false
    rw [hc]; rfl
  rw [bigSep_W1, bigSep_W1, leaves_live V c t 7 hid, leaves_live V c t 0 rfl, leaves_live V c t 1 rfl, leaves_live V c t 2 rfl, leaves_live V c t 3 rfl, leaves_live V c t 4 rfl, leaves_live V c t 5 rfl, leaves_live V c t 6 rfl]
  rw [show (dat V c).owesAt none t.succ = (dat V c).owesAt none t.castSucc from rfl,
    show (dat V c).Φ t.castSucc = iprop(∃ f : S1024x1.Idx → F .f32, ⌜Done (V c main_arg0) t.val f⌝ ∗ pt (F := F) c accM f) from rfl,
    show (dat V c).Φ t.succ = iprop(∃ f : S1024x1.Idx → F .f32, ⌜Done (V c main_arg0) (t.val + 1) f⌝ ∗ pt (F := F) c accM f) from rfl]
  unfold owns
  iintro ⟨⟨%f, %hf, H9⟩, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  rw [before_0] at h0; rw [before_1] at h1; rw [before_2] at h2; rw [before_3] at h3
  rw [before_4] at h4; rw [before_5] at h5; rw [before_6] at h6
  have hst := done_step V c t hf
  rw [← h0, ← h1, ← h2, ← h3] at hst
  iapply (run_last c (grid1.coords t) _ _ _ _ _ _ _ _ _ _ _ _ _ _ _ _ f0 f1 f2 f3 f4 f5 f6 f7 f _ hc _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  iintro ⟨H0, H1, H2, H3, H4, H5, H6, ⟨%g, %hg, H7⟩, H9⟩
  isplitl [H9]
  · iexists _; isplitr; swap; (· iexact H9)
    ipureintro; exact hst
  isplitl [Howes]; · iexact Howes
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  iexists g; isplitr; swap; (· iexact H7)
  ipureintro
  rw [show t.val + 1 = 16 by omega] at hst
  have hall := hst.all
  dsimp only [dat]
  exact hg.trans (congr (congr (congr (congrArg k1_pay2 hall) h5) h6) h4)

/-- The body's obligation, at every point. -/
theorem body_obligation (c : Dev nD) : BodyObligation (dat V c) (defs₀ (F := F)) 𝒱₀ none Set.univ := fun t => by
  by_cases ht : t.val = 15
  · exact obl_last V c t ht
  · exact obl_mid V c t ht

end Cert.Proof.KI

end
-- ==== Proof.IdealSeg.lean ====
/-
  The TensorCore kernel's region over the core's buffers: entered with them at any contents, left with the result's array at
  the loss and every other buffer as it was.
-/
module

public import proofs.«01_k».proof.Proof.IdealObl

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The result's array after the region is the loss. -/
theorem arrAt_out (c : Dev nD) : (dat V c).arrAt 7 cfg1.N = loss V c := by
  refine (dat V c).arrAt_eq_of_cover 7 (loss V c) (fun t _ => ?_) (fun i => ⟨t1_15, (flush1_7 t1_15).mpr rfl, ?_⟩)
  · exact (col_eq (loss V c) (fun x => (win1_7.rect t).emb x) fun x a => win1_7.rect_emb_val_of_index_zero t a (by match a with | ⟨0, _⟩ => rfl | ⟨1, _⟩ => rfl) x).symm
  · refine Finset.mem_map.mpr ⟨i, Finset.mem_univ _, ?_⟩
    funext a
    exact Fin.ext (win1_7.rect_emb_val_of_index_zero t1_15 a (by match a with | ⟨0, _⟩ => rfl | ⟨1, _⟩ => rfl) i)

/-- Every window but the last is fetched. -/
theorem in_of_ne (w : Fin cfg1.W) (h : w ≠ 7) : (cfg1.win w).isOut = false := by revert w; decide

/-- Every window but the last is over a buffer other than the result's. -/
theorem arr_ne (w : Fin cfg1.W) (h : w ≠ 7) : Pipeline.arrRef spec1 w ≠ main_v12 := by revert w; decide

/-- No table is fetched ahead of the pipeline. -/
abbrev adm (p : Fin 1) : (pcfgs (F := F) p).Adm := (cfgs p).toPCfg_adm

/-- The one pipeline's proof data. -/
def pdats (p : Fin 1) (c : Dev nD) : Dat τ (Elt F) (HIx 1) ℕ UU ℕ (Pipeline.pin (pcfgs (F := F)) adm p) c := dat V c

/-- The scratch in its view is the whole buffer. -/
theorem pt_acc (c : Dev nD) (f : S1024x1.Idx → F .f32) : (pt (F := F) c accM f : sProp 𝕄) = (((c : Thread nD τ).loc cc1_scratch0) ↦{fullShare} f) := by
  unfold pt
  rw [show accM.view.set = Finset.univ from View.set_whole _]

/-- Before the first step the rows' scratch may hold anything. -/
theorem rows_start (c : Dev nD) : (Pipeline.scopedRest (Ix := HIx 1) (Name := ℕ) (U := UU) (Lvl := ℕ) (Val := Elt F) spec1 c : sProp 𝕄) ⊢ (dat V c).Φ 0 := by
  rw [scopedRest1_eq]
  dsimp only [dat]
  iintro ⟨%f, Hr⟩
  iexists f; isplitr; · ipureintro; exact fun _ h => absurd h (Nat.not_lt_zero _)
  iapply (Entails.of_eq (pt_acc c f).symm)
  iexact Hr

/-- After the last step the rows' scratch is given back. -/
theorem rows_end (c : Dev nD) : (dat V c).Φ (Fin.last _) ⊢ (Pipeline.scopedRest (Ix := HIx 1) (Name := ℕ) (U := UU) (Lvl := ℕ) (Val := Elt F) spec1 c : sProp 𝕄) := by
  rw [scopedRest1_eq]
  dsimp only [dat]
  iintro ⟨%f, -, Hr⟩
  iexists f
  iapply (Entails.of_eq (pt_acc c f))
  iexact Hr

variable (Vp : (c : Dev nD) → (b : Ref sig .tc) → Buf (Elt F) ((c : Thread nD τ).loc b))

/-- What the core owes around the region: nothing, its waits so far at or below the first call's end. -/
abbrev owesB (c : Dev nD) : sProp 𝕄 :=
  iprop(∃ W, ⌜(K (F := F)).WBelow (c : Thread nD τ) W (8 * 1)⌝ ∗ owes (c : Thread nD τ) (0 : CellTallies nD τ sig (HIx 1)) W)

set_option backward.isDefEq.respectTransparency.types false in
/-- The region, from the core's buffers at `V` to the same at `Vp`, which is `V` but for the result's array at the loss. -/
def reg (hVp_out : ∀ c, Vp c main_v12 = loss V c) (hVp_ne : ∀ c (b : Ref sig .tc), b ≠ main_v12 → Vp c b = V c b) :
    Pipeline.RegionSeg (pcfgs (F := F)) adm (pdats V) none defs₀ 𝒱₀ (K (F := F)).L (K (F := F)).lev 0 where
  win := winFacts₀1
  block_pos := block_pos1
  stage_whole := stage_whole1
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesB (F := F) c)
  post c := iprop(unscopedBufs c (Vp c) ∗ owesB (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.unscopedBufs_split₀ (Ix := HIx 1) (Name := ℕ) (U := UU) (Lvl := ℕ) (Val := Elt F) cfgs 0 winFacts₀1.arr_unscoped c (V c)
    have harr := (dat V c).arrBufs_eq_arrays sharedIn1 arr_whole1 (fun _ _ => rfl) (V c) ((dat V c).arrAt · 0) (fun _ => rfl)
    iintro ⟨⟨Hub, HO⟩, -, -⟩
    ihave H := (Entails.of_eq hsplit) $$ Hub
    icases H with ⟨Ha, Hrest⟩
    ihave Ha := (Entails.of_eq harr) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := sep_elim_right.trans (sep_elim_right.trans (rows_start V c))
  hout c := by
    rw [Pipeline.ownSems0_none]
    refine (rows_end V c).trans ?_
    iintro H
    isplitr; · iempintro
    isplitr; · iempintro
    iexact H
  hexit c := by
    have hsplit := Pipeline.unscopedBufs_split₀ (Ix := HIx 1) (Name := ℕ) (U := UU) (Lvl := ℕ) (Val := Elt F) cfgs 0 winFacts₀1.arr_unscoped c (Vp c)
    have harr := (dat V c).arrBufs_eq_arrays sharedIn1 arr_whole1 (fun _ _ => rfl) (Vp c) ((dat V c).arrAt · cfg1.N) (fun w => by
      by_cases h : w = 7
      · subst h; exact (arrAt_out V c).trans (hVp_out c).symm
      · exact ((dat V c).arrAt_in w (in_of_ne w h) _).trans (hVp_ne c _ (arr_ne w h)).symm)
    have hrest : (Pipeline.unscopedRest (Ix := HIx 1) (Name := ℕ) (U := UU) (Lvl := ℕ) spec1 c (V c) : sProp 𝕄) = Pipeline.unscopedRest spec1 c (Vp c) := by
      unfold Pipeline.unscopedRest
      refine bigSep_congr fun b hb => ?_
      rw [hVp_ne c b fun h => (Finset.mem_sdiff.mp hb).2 (h ▸ Finset.mem_image.mpr ⟨7, Finset.mem_univ _, rfl⟩)]
    iintro ⟨Ha, HO, -, Hrest⟩
    imodintro
    isplitl [Ha Hrest]
    · iapply (Entails.of_eq hsplit.symm)
      isplitl [Ha]
      · iapply (Entails.of_eq harr.symm); iexact Ha
      · iapply (Entails.of_eq hrest); iexact Hrest
    unfold Pipeline.Dat.owesAt Pipeline.owesWithin
    icases HO with ⟨%W, %hW, HO⟩; iexists W; isplitr
    · ipureintro
      intro p hp
      rcases hW hp with h | ⟨w, s, h⟩
      · exact h
      · rw [h]; exact Nat.zero_le _
    iexact HO

end Cert.Proof.KI

end
-- ==== Proof.IdealHost.lean ====
/-
  The host's side of @main: the operations before the SparseCore call, between the two calls, and after the second; and what
  the buffers hold after each.
-/
module

public import proofs.«01_k».proof.Proof.IdealTile
public import proofs.«01_k».proof.Proof.IdealSeg
public import Idealize.ShloMosaic.Lib.StableHlo.Run

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

open Idealize.ShloMosaic.StableHlo

variable {F : FTy → Type} [FloatOps F] [Named F]

local notation "𝕄" => MT nD τ sig (HIx 1) (Elt F) ℕ UU ℕ

/-- The operations before the SparseCore call: the element numbers and the flat table. -/
abbrev ops1 : List (HloOp τ sig (Elt F)) := [
   StableHlo.nullary main_v0 (iotaInDim S1024 32 0),
   StableHlo.nullary main_c (constantI S_ 32 100000#32),
   StableHlo.unary main_c main_v1 (broadcastInDim S1024 ![] bcast_S_S1024 : (⟨S_, .i32⟩ : BufTy).Contents (Elt F) → (⟨S1024, .i32⟩ : BufTy).Contents (Elt F)),
   StableHlo.binary main_v0 main_v1 main_v2 (muli : (⟨S1024, .i32⟩ : BufTy).Contents (Elt F) → (⟨S1024, .i32⟩ : BufTy).Contents (Elt F) → (⟨S1024, .i32⟩ : BufTy).Contents (Elt F)),
   StableHlo.binary main_v2 main_arg1 main_v3 (addi : (⟨S1024, .i32⟩ : BufTy).Contents (Elt F) → (⟨S1024, .i32⟩ : BufTy).Contents (Elt F) → (⟨S1024, .i32⟩ : BufTy).Contents (Elt F)),
   StableHlo.binary main_v3 main_v2 main_v4 ((fun a b => concatenate S2048 0 [⟨S1024, a⟩, ⟨S1024, b⟩] concatenates_S1024_S1024_S2048_d0) : (⟨S1024, .i32⟩ : BufTy).Contents (Elt F) → (⟨S1024, .i32⟩ : BufTy).Contents (Elt F) → (⟨S2048, .i32⟩ : BufTy).Contents (Elt F)),
   StableHlo.reshape main_arg0 main_v5 (rfl : (.f32 : EltTy) = .f32) shapeCasts_S1024x100000_S102400000]

/-- The operations between the calls: the gathered values and the targets as columns. -/
abbrev ops2 : List (HloOp τ sig (Elt F)) := [
   StableHlo.unary main_v6 main_v7 ((extractStridedSlice S1024 ![0] · slices_S2048_S1024_0) : (⟨S2048, .f32⟩ : BufTy).Contents (Elt F) → (⟨S1024, .f32⟩ : BufTy).Contents (Elt F)),
   StableHlo.reshape main_v7 main_v8 (rfl : (.f32 : EltTy) = .f32) shapeCasts_S1024_S1024x1,
   StableHlo.unary main_v6 main_v9 ((extractStridedSlice S1024 ![1024] · slices_S2048_S1024_1024) : (⟨S2048, .f32⟩ : BufTy).Contents (Elt F) → (⟨S1024, .f32⟩ : BufTy).Contents (Elt F)),
   StableHlo.reshape main_v9 main_v10 (rfl : (.f32 : EltTy) = .f32) shapeCasts_S1024_S1024x1,
   StableHlo.reshape main_arg1 main_v11 (rfl : (.i32 : EltTy) = .i32) shapeCasts_S1024_S1024x1]

/-- The operation after the calls. -/
abbrev ops3 : List (HloOp τ sig (Elt F)) := [
   StableHlo.reshape main_v12 main_v13 (rfl : (.f32 : EltTy) = .f32) shapeCasts_S1x1_S_]

/-- @main in three lines of host operations and the two calls between them. -/
theorem main_eq (d : Dev nD) : main (F := F) d = (seq ops1 >>= fun _ => sc.run d 0 >>= fun _ => seq ops2 >>= fun _ =>
    SparseCore.liftProg (Prog.lift (.customCall (Pipeline.entry 0) ())) >>= fun _ => seq ops3 >>= fun _ => pure ⟨⟩) := by
  simp only [main, seq, bind_assoc, pure_bind]
  rfl

/-- The buffers held throughout: every unscoped one. -/
abbrev SS : Finset (DevRef τ sig) := Pipeline.ucRefs τ sig

/-- A line whose operations are on the TensorCore's buffers is on the buffers held. -/
theorem sub_of (ops : List (HloOp τ sig (Elt F))) (h : ops.Forall fun op => op.bufs ⊆ tcRefs τ sig) : ∀ op ∈ ops, op.bufs ⊆ SS :=
  fun op hop => Pipeline.sub_ucRefs op ((List.forall_iff_forall_mem.mp h) op hop)

theorem sub1 : ∀ op ∈ ops1 (F := F), op.bufs ⊆ SS := sub_of _
  ⟨nullary_bufs_sub .., nullary_bufs_sub .., unary_bufs_sub .., binary_bufs_sub .., binary_bufs_sub .., binary_bufs_sub .., reshape_bufs_sub ..⟩
theorem sub2 : ∀ op ∈ ops2 (F := F), op.bufs ⊆ SS := sub_of _
  ⟨unary_bufs_sub .., reshape_bufs_sub .., unary_bufs_sub .., reshape_bufs_sub .., reshape_bufs_sub ..⟩
theorem sub3 : ∀ op ∈ ops3 (F := F), op.bufs ⊆ SS := sub_of _ (reshape_bufs_sub ..)
theorem fresh1 : ∀ op ∈ ops1 (F := F), op.fresh = ∅ := by
  intro op h; fin_cases h <;> rfl
theorem fresh2 : ∀ op ∈ ops2 (F := F), op.fresh = ∅ := by
  intro op h; fin_cases h <;> rfl
theorem fresh3 : ∀ op ∈ ops3 (F := F), op.fresh = ∅ := by
  intro op h; fin_cases h <;> rfl

variable (m : (ℓ : Loc nD τ sig) → Buf (Elt F) ℓ)

/-- The buffers at launch. -/
def V0 (d : Dev nD) : Valuation τ sig (Elt F) := fun b => m (d, b)
/-- The buffers when the SparseCore call starts. -/
def V1 (d : Dev nD) : Valuation τ sig (Elt F) := after ops1 (V0 m d)
/-- The flat table, the element numbers, and what the result's buffer held, when the call starts. -/
def tab (d : Dev nD) : Buf (Elt F) (xLoc d) := V1 m d (Proc.devRef .tc main_v5)
def nums (d : Dev nD) : Buf (Elt F) (iLoc d) := V1 m d (Proc.devRef .tc main_v4)
def old (d : Dev nD) : Buf (Elt F) (oLoc d) := V1 m d (Proc.devRef .tc main_v6)
/-- The buffers when the SparseCore call has ended. -/
def V2 (d : Dev nD) : Valuation τ sig (Elt F) := Function.update (V1 m d) (Proc.devRef .tc main_v6) (O₁ (tab m) (nums m) d)
/-- The buffers when the TensorCore call starts. -/
def V3 (d : Dev nD) : Valuation τ sig (Elt F) := after ops2 (V2 m d)
/-- The same as the core names them. -/
def R3 (c : Dev nD) (b : Ref sig .tc) : Buf (Elt F) ((c : Thread nD τ).loc b) := V3 m c (Proc.devRef .tc b)
/-- The buffers when the TensorCore call has ended. -/
def V4 (d : Dev nD) : Valuation τ sig (Elt F) := Function.update (V3 m d) (Proc.devRef .tc main_v12) (loss (R3 m) d)
def R4 (c : Dev nD) (b : Ref sig .tc) : Buf (Elt F) ((c : Thread nD τ).loc b) := V4 m c (Proc.devRef .tc b)
/-- The buffers at the end. -/
def V5 (d : Dev nD) : Valuation τ sig (Elt F) := after ops3 (V4 m d)

theorem R4_out (c : Dev nD) : R4 m c main_v12 = loss (R3 m) c := by
  unfold R4 V4; exact Function.update_self ..
theorem R4_ne (c : Dev nD) (b : Ref sig .tc) (h : b ≠ main_v12) : R4 m c b = R3 m c b :=
  Function.update_of_ne (fun e => h (Proc.devRef_injective _ e)) ..

/-- The logits and the targets as launched, and the first element number of each row. -/
abbrev arg0 (d : Dev nD) : S1024x100000.Idx → F .f32 := m ((d : Thread nD τ).loc main_arg0)
abbrev arg1 (d : Dev nD) : S1024.Idx → BitVec 32 := m ((d : Thread nD τ).loc main_arg1)
def starts : S1024.Idx → BitVec 32 := muli (iotaInDim S1024 32 0) (broadcastInDim S1024 ![] bcast_S_S1024 (constantI S_ 32 100000#32))

theorem tab_eq (d : Dev nD) : tab m d = shapeCast S102400000 (arg0 m d) shapeCasts_S1024x100000_S102400000 := by
  unfold tab V1
  after_results_simp
  rfl
theorem nums_eq (d : Dev nD) : nums m d = concatenate S2048 0 [⟨S1024, addi starts (arg1 m d)⟩, ⟨S1024, starts⟩] concatenates_S1024_S1024_S2048_d0 := by
  unfold nums V1
  after_results_simp
  rfl
theorem R3_arg0 (d : Dev nD) : R3 m d main_arg0 = arg0 m d := by
  unfold R3 V3 V2
  after_results_simp
  rw [Function.update_of_ne (by decide)]
  unfold V1
  after_results_simp
  rfl
theorem R3_v11 (d : Dev nD) : R3 m d main_v11 = shapeCast S1024x1 (arg1 m d) shapeCasts_S1024_S1024x1 := by
  unfold R3 V3 V2
  after_results_simp
  rw [Function.update_of_ne (by decide)]
  unfold V1
  after_results_simp
  rfl
theorem R3_v8 (d : Dev nD) : R3 m d main_v8
    = shapeCast S1024x1 (extractStridedSlice S1024 ![0] (gath (tab m d) (nums m d)) slices_S2048_S1024_0) shapeCasts_S1024_S1024x1 := by
  unfold R3 V3 V2
  after_results_simp
  rw [Function.update_self]
  rfl
theorem R3_v10 (d : Dev nD) : R3 m d main_v10
    = shapeCast S1024x1 (extractStridedSlice S1024 ![1024] (gath (tab m d) (nums m d)) slices_S2048_S1024_1024) shapeCasts_S1024_S1024x1 := by
  unfold R3 V3 V2
  after_results_simp
  rw [Function.update_self]
  rfl

/-- The result: the loss of the launch's logits and targets. -/
theorem V5_out (d : Dev nD) : V5 m d (Proc.devRef .tc main_v13) = shapeCast S_ (k1_pay2 (rowSums (arg0 m d))
      (shapeCast S1024x1 (extractStridedSlice S1024 ![0] (gath (tab m d) (nums m d)) slices_S2048_S1024_0) shapeCasts_S1024_S1024x1)
      (shapeCast S1024x1 (extractStridedSlice S1024 ![1024] (gath (tab m d) (nums m d)) slices_S2048_S1024_1024) shapeCasts_S1024_S1024x1)
      (shapeCast S1024x1 (arg1 m d) shapeCasts_S1024_S1024x1)) shapeCasts_S1x1_S_ := by
  rw [← R3_v8, ← R3_v10, ← R3_v11, ← R3_arg0]
  unfold V5 V4
  after_results_simp
  rw [Function.update_self]
  rfl
theorem V5_arg0 (d : Dev nD) : V5 m d (Proc.devRef .tc main_arg0) = arg0 m d := by
  rw [← R3_arg0]
  unfold V5 V4
  after_results_simp
  rw [Function.update_of_ne (by decide)]
  rfl
theorem V5_arg1 (d : Dev nD) : V5 m d (Proc.devRef .tc main_arg1) = arg1 m d := by
  unfold V5 V4
  after_results_simp
  rw [Function.update_of_ne (by decide)]
  unfold V3 V2
  after_results_simp
  rw [Function.update_of_ne (by decide)]
  unfold V1
  after_results_simp
  rfl

end Cert.Proof.KI

end
-- ==== Proof.IdealLaunch.lean ====
/-
  The whole program: the launch's ghost state, @main on the TensorCore around the two calls, and the run of every thread.
  Under the range of the element numbers the program ends, the arguments as launched, the result the loss.
-/
module

public import proofs.«01_k».proof.Proof.IdealHost
public import Idealize.ShloMosaic.Lib.SparseCore.Quiescent

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

open Idealize.ShloMosaic.StableHlo

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The call's payloads at this launch. -/
abbrev PP : (K (F := F)).Pay (nD := nD) (Val := Elt F) (Name := ℕ) (U := UU) := P (tab m) (nums m) (old m)

/-- The launch element: the handshakes' rounds, the pipeline's rounds, nothing counted. -/
def u₀ : UU := (initOf (K (F := F)).hsCells (K (F := F)).hsToks, (initOf (Pipeline.cells cfgs cellOf_inj) (Pipeline.launchToks cfgs cellOf_inj), 1))

/-- What the launch deals device `d`'s TensorCore: its pipeline's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] [Named F] in
theorem bigSep_none {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (PP m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H2 := (own_pair_emb embR (initOf (Pipeline.cells cfgs cellOf_inj) (Pipeline.launchToks cfgs cellOf_inj) : UP) (1 : Counters)) $$ HR
  icases H2 with ⟨HP, -⟩
  ihave HP := (Entails.of_eq (show (BI.own (((Emb.inl : Emb UP (UP × Counters)).trans embR) (initOf (Pipeline.cells cfgs cellOf_inj) (Pipeline.launchToks cfgs cellOf_inj))) : sProp 𝕄)
    = BI.own ((EP (F := F)) (initOf (Pipeline.cells cfgs cellOf_inj) (Pipeline.launchToks cfgs cellOf_inj))) from rfl)) $$ HP
  imod (Pipeline.fund_ghost cfgs (EP (F := F)) cellOf_inj) $$ HP with ⟨Hg, Ht⟩
  imodintro
  isplitl [HH]; · iexact HH
  isplitl [Hg Ht]
  · iapply (Entails.of_eq (bigSep_univ_of_subsingleton (Φ := G (F := F)) (0 : Dev nD)).symm)
    unfold G
    isplitl [Hg]
    · ihave Hg := (Entails.of_eq (bigSep_univ_of_subsingleton (0 : Dev nD))) $$ Hg
      ihave Hg := (Entails.of_eq (bigSep_univ_of_subsingleton (0 : Fin 1))) $$ Hg
      iexact Hg
    · ihave Ht := (Entails.of_eq (bigSep_univ_of_subsingleton (0 : Dev nD))) $$ Ht
      ihave Ht := (Entails.of_eq (bigSep_univ_of_subsingleton (0 : Fin 1))) $$ Ht
      iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_none]
  iempintro

/-- The three buffers of the SparseCore call. -/
abbrev S3 : Finset (DevRef τ sig) := {Proc.devRef .tc main_v4, Proc.devRef .tc main_v5, Proc.devRef .tc main_v6}
theorem S3_sub : S3 ⊆ SS := by decide

theorem held_S3 (d : Dev nD) (W : Valuation τ sig (Elt F)) : (held (d : Thread nD τ) S3 W : sProp 𝕄)
    = iprop((iLoc d ↦{fullShare} W (Proc.devRef .tc main_v4)) ∗ (xLoc d ↦{fullShare} W (Proc.devRef .tc main_v5)) ∗ oLoc d ↦{fullShare} W (Proc.devRef .tc main_v6)) := by
  unfold held
  rw [SparseCore.bigSep_insert' (by decide), SparseCore.bigSep_insert' (by decide), bigSep_singleton]

/-- Before the call: its three buffers and the rest. -/
theorem held_before (d : Dev nD) : (held (d : Thread nD τ) SS (V1 m d) : sProp 𝕄)
    = iprop(((iLoc d ↦{fullShare} nums m d) ∗ (xLoc d ↦{fullShare} tab m d) ∗ oLoc d ↦{fullShare} old m d) ∗ held (d : Thread nD τ) (SS \ S3) (V1 m d)) := by
  rw [held_sub_split _ S3_sub, held_S3]
  rfl

/-- After the call: the result's buffer at the values gathered. -/
theorem held_after (d : Dev nD) : (held (d : Thread nD τ) SS (V2 m d) : sProp 𝕄)
    = iprop(((iLoc d ↦{fullShare} nums m d) ∗ (xLoc d ↦{fullShare} tab m d) ∗ oLoc d ↦{fullShare} O₁ (tab m) (nums m) d) ∗ held (d : Thread nD τ) (SS \ S3) (V1 m d)) := by
  rw [held_sub_split _ S3_sub, held_S3]
  rw [show V2 m d (Proc.devRef .tc main_v4) = nums m d from Function.update_of_ne (by decide) ..,
    show V2 m d (Proc.devRef .tc main_v5) = tab m d from Function.update_of_ne (by decide) ..,
    show V2 m d (Proc.devRef .tc main_v6) = O₁ (tab m) (nums m) d from Function.update_self ..]
  rw [held_congr (V := V2 m d) (V' := V1 m d) _ fun b hb => Function.update_of_ne (fun e => (Finset.mem_sdiff.mp hb).2 (by rw [e]; decide)) ..]

/-- What @main leaves the claims: every buffer. -/
abbrev FIN (d : Dev nD) : sProp 𝕄 := held (d : Thread nD τ) SS (V5 m d)

/-- After its one call the TensorCore owes nothing more. -/
theorem owes_after (d : Dev nD) : (iprop(∃ W, ⌜(K (F := F)).WBelow (SparseCore.T d) W (8 * SparseCore.Cfg.Blocks.fst 1 1 1)⌝
    ∗ owes (SparseCore.T d) ((K (F := F)).Otc d 1) W) : sProp 𝕄) = owesB (F := F) d := by
  rw [(K (F := F)).Otc_end d (le_refl 1)]
  rfl

variable [∀ e, Nonempty (Elt F e)]

theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq]
  rw [show (unscopedBufs d (fun b => m ((SparseCore.T d).loc b)) : sProp 𝕄) = held (d : Thread nD τ) SS (V0 m d) from Pipeline.unscopedBufs_held d (V0 m d)]
  iintro ⟨#Hctx, Hst, ⟨Hb, Hh, Hts, -⟩, Hg, Ht⟩
  iapply (wp_seq 𝒱 none Set.univ d SS _ ops1 sub1 fresh1 (V0 m d)) $$ [Hb Hh]
  · isplitl [Hb] <;> iassumption
  iintro ⟨Hb, Hh⟩
  ihave Hh := (Entails.of_eq (show (held (d : Thread nD τ) SS (after ops1 (V0 m d)) : sProp 𝕄) = _ from held_before m d)) $$ Hh
  icases Hh with ⟨H3, Hh⟩
  rw [wp_bind]
  iapply ((K (F := F)).wp_run (D (F := F)) 𝒱 (EH := EH) (P := PP m) κ d 0) $$ [Hst H3 Hh Hb Hts Hg Ht]
  isplitr; · iexact Hctx
  isplitl [Hst]; · iexact Hst
  isplitl [H3]
  · iapply (Entails.of_eq (cores_loads (tab m) (nums m) (old m) d).symm); iexact H3
  iintro ⟨Hst, Hdn⟩
  ihave H3 := (Entails.of_eq (show (bigSep Finset.univ fun c : Fin ((K (F := F)).nCore 0) => (PP m).dn 0 d c) = _ from cores_loads (tab m) (nums m) (O₁ (tab m) (nums m)) d)) $$ Hdn
  ihave Hh := (Entails.of_eq (held_after m d).symm) $$ [H3 Hh]
  · isplitl [H3] <;> iassumption
  iapply (wp_seq 𝒱 none Set.univ d SS _ ops2 sub2 fresh2 (V2 m d)) $$ [Hb Hh]
  · isplitl [Hb] <;> iassumption
  iintro ⟨Hb, Hh⟩
  rw [wp_bind]
  ihave Hub := (Entails.of_eq (show (held (d : Thread nD τ) SS (after ops2 (V2 m d)) : sProp 𝕄) = unscopedBufs d (R3 m d) from (Pipeline.unscopedBufs_held d (V3 m d)).symm)) $$ Hh
  ihave Hlev := (SparseCore.Cfg.ctx_levAts κ) $$ Hctx
  unfold SparseCore.Cfg.tcSt
  icases Hst with ⟨HO, Hst⟩
  iapply ((K (F := F)).wp_liftProg (D (F := F)) 𝒱 (SparseCore.T d) Set.univ none _ _)
  iapply (Pipeline.RegionSeg.wp (pcfgs (F := F)) adm (pdats (R3 m)) none cellOf_inj EP defs₀ 𝒱₀ (K (F := F)).L (K (F := F)).lev
    (reg (R3 m) (R4 m) (R4_out m) (R4_ne m)) d none (fun _ h => nomatch h) _ _) $$ [Hb Hub Hlev HO Hst Hts Hg Ht]
  isplitr [Hb Hub HO Hlev Hg Ht]
  rotate_left
  · isplitl [Hb]; · iexact Hb
    isplitl [Hub HO]
    · iapply (Entails.of_eq (show iprop(unscopedBufs d (R3 m d) ∗ owesB (F := F) d) = (reg (R3 m) (R4 m) (R4_out m) (R4_ne m)).pre d from rfl))
      isplitl [Hub]; · iexact Hub
      iapply (Entails.of_eq (owes_after d)); iexact HO
    isplitl [Hlev]; · iexact Hlev
    isplitl [Hg]; · iexact Hg
    iexact Ht
  iintro ⟨Hb, Hpost⟩
  ihave Hpost := (Entails.of_eq (show (reg (R3 m) (R4 m) (R4_out m) (R4_ne m)).post d = iprop(unscopedBufs d (R4 m d) ∗ owesB (F := F) d) from rfl)) $$ Hpost
  icases Hpost with ⟨Hub, HO⟩
  rw [wp_ret]; imodintro
  ihave Hh := (Entails.of_eq (show (unscopedBufs d (R4 m d) : sProp 𝕄) = held (d : Thread nD τ) SS (V4 m d) from Pipeline.unscopedBufs_held d (V4 m d))) $$ Hub
  iapply (wp_seq 𝒱 none Set.univ d SS _ ops3 sub3 fresh3 (V4 m d)) $$ [Hb Hh]
  · isplitl [Hb] <;> iassumption
  iintro ⟨Hb, Hh⟩
  rw [wp_pure]; imodintro
  isplitl [Hst HO]
  · isplitl [HO]; · iapply (Entails.of_eq (owes_after d).symm); iexact HO
    iexact Hst
  isplitl [Hh]; · iexact Hh
  isplitl [Hb] <;> iassumption

/-- What the claims read of device `d`'s final state. -/
def fq (d : Dev nD) (s' : Phys nD τ sig (Elt F)) : Prop :=
  s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_v13) = V5 m d (Proc.devRef .tc main_v13)

/-- A buffer held is what the final state has in it. -/
theorem fin_one (d : Dev nD) (s' : Phys nD τ sig (Elt F)) (b : DevRef τ sig) (hb : b ∈ SS) :
    iprop(FIN m d ∗ SI s') ⊢ (⌜s'.mem.mem (d, b) = V5 m d b⌝ : sProp 𝕄) := by
  iintro ⟨Hh, HSI⟩
  ihave Hb := (show (FIN m d : sProp 𝕄) ⊢ iprop((d, b) ↦{fullShare} V5 m d b) from bigSep_elim (Φ := fun b : DevRef τ sig => iprop((d, b) ↦{fullShare} V5 m d b : sProp 𝕄)) hb) $$ Hh
  ihave H := (SI_pointsTo_agree (st := s') (ℓ := (d, b)) (I := Finset.univ) (q := fullShare) (f := V5 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  iintro H
  ihave H := (persistent_entails_right (fin_one m d s' (Proc.devRef .tc main_arg0) (by decide))) $$ H
  icases H with ⟨%h0, H⟩
  ihave H := (persistent_entails_right (fin_one m d s' (Proc.devRef .tc main_arg1) (by decide))) $$ H
  icases H with ⟨%h1, H⟩
  ihave H := (fin_one m d s' (Proc.devRef .tc main_v13) (by decide)) $$ H
  icases H with %h2
  ipureintro; exact ⟨h0.trans (V5_arg0 m d), h1.trans (V5_arg1 m d), h2⟩

/-- What every run ends in: the arguments as launched, the result the loss, every counter at zero. -/
def QC : PUnit × MemSt nD τ sig (Elt F) → Prop := fun r => (∀ d : Dev nD, r.2.mem ((d : Thread nD τ).loc main_arg0) = m ((d : Thread nD τ).loc main_arg0)
  ∧ r.2.mem ((d : Thread nD τ).loc main_arg1) = m ((d : Thread nD τ).loc main_arg1) ∧ r.2.mem ((d : Thread nD τ).loc main_v13) = V5 m d (Proc.devRef .tc main_v13)) ∧ r.2.sem = fun _ => 0

/-- Every run from a launch whose element numbers lie in the table ends so. -/
theorem run_main (hpre : InTable (nums m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (tab m) (nums m) (old m) facts hpre)
    (fun q _ => match q with | 0 => SparseCore.Cfg.VecSplit.of_plain (vecSplit (tab m) (nums m) (old m)))
    m ρ main G (FIN m) (u₀ (F := F)) (sep_elim_left.trans (hu₀ m)) (hmain m ρ) (fq m) (hfin m) (QC m) (fun _ h hz => ⟨h, hz⟩)

end Cert.Proof.KI

end
-- ==== Proof.IdealNums.lean ====
/-
  The element numbers: row `r` asks for its target's element and for its first element, at `100000 r + t r` and `100000 r` of
  the flat table. With every target in its range both lie in the table and are what they say.
-/
module

public import proofs.«01_k».proof.Proof.IdealHost
public import Idealize.ShloMosaic.Lib.Pipeline.Value

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)

open Idealize.ShloMosaic.StableHlo

variable {F : FTy → Type} [FloatOps F] [Named F]

local notation "𝕄" => MT nD τ sig (HIx 1) (Elt F) ℕ UU ℕ

variable (m : (ℓ : Loc nD τ sig) → Buf (Elt F) ℓ) (d : Dev nD)

/-- Every target is a column's number. -/
abbrev InRange : Prop := ∀ j, (arg1 m d j).toNat < 100000

theorem starts_toNat (j : S1024.Idx) : (starts j).toNat = 100000 * (j 0).val := by
  have h : (j 0).val < 1024 := (j 0).isLt
  show (BitVec.ofNat 32 (j 0).val * 100000#32).toNat = _
  rw [BitVec.toNat_mul, BitVec.toNat_ofNat, BitVec.toNat_ofNat]
  omega

/-- A row's place among the columns' two halves. -/
abbrev lo (r : Fin 1024) : S2048.Idx := ix1 ⟨r.val, by omega⟩
abbrev hi (r : Fin 1024) : S2048.Idx := ix1 ⟨1024 + r.val, by omega⟩

theorem nums_lo (r : Fin 1024) : nums m d (lo r) = starts (ix1 r) + arg1 m d (ix1 r) := by
  rw [nums_eq]
  exact concatenate_pair_apply_left (t := S2048) 0 (addi starts (arg1 m d)) starts concatenates_S1024_S1024_S2048_d0 (lo r) rfl (ix1 r) fun b => by match b with | ⟨0, _⟩ => rfl

theorem nums_hi (r : Fin 1024) : nums m d (hi r) = starts (ix1 r) := by
  rw [nums_eq]
  exact concatenate_pair_apply_right (t := S2048) 0 (addi starts (arg1 m d)) starts concatenates_S1024_S1024_S2048_d0 (hi r) rfl rfl (ix1 r) (fun b hb => by match b with | ⟨0, _⟩ => exact absurd rfl hb)
    (show r.val + 1024 = 1024 + r.val by omega)

theorem nums_lo_toNat (h : InRange m d) (r : Fin 1024) : (nums m d (lo r)).toNat = 100000 * r.val + (arg1 m d (ix1 r)).toNat := by
  have h1 := starts_toNat (ix1 r)
  have h2 := h (ix1 r)
  have h3 : (ix1 (n := 1024) r 0).val = r.val := rfl
  rw [nums_lo, BitVec.toNat_add]
  omega

theorem nums_hi_toNat (r : Fin 1024) : (nums m d (hi r)).toNat = 100000 * r.val := by
  rw [nums_hi]; exact starts_toNat (ix1 r)

/-- With the targets in range every element number lies in the table. -/
theorem inTable (h : ∀ d, InRange m d) : InTable (nums m) := by
  intro d j
  by_cases hj : (j 0).val < 1024
  · have e := nums_lo_toNat m d (h d) ⟨(j 0).val, hj⟩
    have hb := h d (ix1 ⟨(j 0).val, hj⟩)
    rw [show j = lo ⟨(j 0).val, hj⟩ from funext fun a => by match a with | ⟨0, _⟩ => rfl]
    omega
  · have hl : (j 0).val < 2048 := (j 0).isLt
    have e := nums_hi_toNat m d ⟨(j 0).val - 1024, by omega⟩
    rw [show j = hi ⟨(j 0).val - 1024, by omega⟩ from funext fun a => by match a with | ⟨0, _⟩ => exact Fin.ext (by show (j 0).val = 1024 + ((j 0).val - 1024); omega)]
    simp only at e
    omega

/-- The flat table at row `r`'s column `c`. -/
theorem tab_at (r : Fin 1024) (c : Fin 100000) (n : ℕ) (hn : n = 100000 * r.val + c.val) : tab m d (flatIx n) = arg0 m d (ix2 r c) := by
  rw [tab_eq]
  refine shapeCast_apply _ _ _ _ ?_
  rw [Shape.rowMajor_val_two, Shape.rowMajor_val_one]
  show r.val * 100000 + c.val = n % 102400000
  have := r.isLt; have := c.isLt
  omega

/-- The first half's column is each row's element at its target. -/
theorem col_lo (h : InRange m d) (r : Fin 1024) (z : Fin 1) :
    shapeCast S1024x1 (extractStridedSlice S1024 ![0] (gath (tab m d) (nums m d)) slices_S2048_S1024_0) shapeCasts_S1024_S1024x1 (ix2 r z)
      = arg0 m d (ix2 r ⟨(arg1 m d (ix1 r)).toNat, h _⟩) := by
  rw [shapeCast_apply _ _ _ (ix1 r) (by rw [Shape.rowMajor_val_two, Shape.rowMajor_val_one]; show r.val = r.val * 1 + z.val; omega),
    extractStridedSlice_apply _ _ _ _ (lo r) (fun a => by match a with | ⟨0, _⟩ => show r.val = 0 + r.val; omega)]
  exact tab_at m d r ⟨_, h _⟩ _ (nums_lo_toNat m d h r)

/-- The second half's column is each row's first element. -/
theorem col_hi (r : Fin 1024) (z : Fin 1) :
    shapeCast S1024x1 (extractStridedSlice S1024 ![1024] (gath (tab m d) (nums m d)) slices_S2048_S1024_1024) shapeCasts_S1024_S1024x1 (ix2 r z)
      = arg0 m d (ix2 r ⟨0, by decide⟩) := by
  rw [shapeCast_apply _ _ _ (ix1 r) (by rw [Shape.rowMajor_val_two, Shape.rowMajor_val_one]; show r.val = r.val * 1 + z.val; omega),
    extractStridedSlice_apply _ _ _ _ (hi r) (fun a => by match a with | ⟨0, _⟩ => rfl)]
  exact tab_at m d r ⟨0, by decide⟩ _ ((nums_hi_toNat m d r).trans rfl)

/-- The targets' column. -/
theorem col_t (r : Fin 1024) (z : Fin 1) : shapeCast S1024x1 (arg1 m d) shapeCasts_S1024_S1024x1 (ix2 r z) = arg1 m d (ix1 r) := by
  exact shapeCast_apply _ _ _ (ix1 r) (by rw [Shape.rowMajor_val_two, Shape.rowMajor_val_one]; show r.val = r.val * 1 + z.val; omega)

end Cert.Proof.KI

end
-- ==== Proof.Pre.lean ====
/-
  What the two preconditions say of the arguments: `in_range` that every target is a column's number, `finite_in_range` that and
  that every prediction is a real number.
-/
module

public import proofs.«01_k».proof.Proof.Gen.Pre_in_range
public import proofs.«01_k».proof.Proof.Gen.Pre_finite_in_range
public import Idealize.ShloMosaic.Lib.ReduceAll
public import Idealize.ShloMosaic.Lib.Pipeline.Value
public import Idealize.ShloMosaic.Lib.ValueIdx
public import Idealize.ShloMosaic.PureOps.Ideal

@[expose] public section

noncomputable section

namespace Cert.Proof.Pre

open Idealize.ShloMosaic Idealize.ShloMosaic.ValueIdx

/-- A word between 0 and 99999, both comparisons signed, is below 100000 as a natural number. -/
theorem word_lt (x : BitVec 32) (e : IntOp.andi (IntOp.cmpi .sge x 0#32) (IntOp.cmpi .slt x 100000#32) = 1#1) : x.toNat < 100000 := by
  obtain ⟨h0, h1⟩ := IntOp.andi_eq_one.1 e
  rw [IntOp.cmpi_sge] at h0
  rw [IntOp.cmpi_slt] at h1
  have e0 : (0#32).toInt = 0 := by decide
  have e1 : (100000#32).toInt = 100000 := by decide
  rw [e0] at h0
  rw [e1] at h1
  rw [BitVec.toInt_eq_toNat_cond] at h0 h1
  split at h0 <;> omega

/-- The conjunction over all targets, read at one. -/
theorem range_of {F : FTy → Type} [FloatOps F] (p : FVec F Pre_in_range.S1024x100000 .f32) (t : IVec Pre_in_range.S1024 32)
    (h : Cert.Pre_in_range.fn (F := F) p t = fun _ => 1#1) (j : Pre_in_range.S1024.Idx) : (t j).toNat < 100000 :=
  word_lt _ (Host.reduce_andi_all _ _ _ _ ix0 (congrFun h ix0) j)

/-- The same from the second precondition. -/
theorem range_of_fin {F : FTy → Type} [FloatOps F] (p : FVec F Pre_finite_in_range.S1024x100000 .f32) (t : IVec Pre_finite_in_range.S1024 32)
    (h : Cert.Pre_finite_in_range.fn (F := F) p t = fun _ => 1#1) (j : Pre_finite_in_range.S1024.Idx) : (t j).toNat < 100000 :=
  word_lt _ (Host.reduce_andi_all _ _ _ _ ix0 (IntOp.andi_eq_one.1 (congrFun h ix0)).1 j)

/-- An extended real whose absolute value lies below the top one is a real number. -/
theorem real_of_lt (x : EReal) (e : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have ht : (FloatOps.ofBits (F := Ideal) .f32 0x7F800000#32 : EReal) = ⊤ := by
    show Ideal.ofBits .f32 0x7F800000#32 = ⊤
    simp [Ideal.ofBits, Ideal.ieee]
  rw [ht] at e
  induction x using EReal.rec with
  | bot => exact absurd e (by show ¬ Ideal.cmp .olt (max (_ : EReal) (-_)) ⊤ = 1#1; simp [Ideal.cmp])
  | top => exact absurd e (by show ¬ Ideal.cmp .olt (max (_ : EReal) (-_)) ⊤ = 1#1; simp [Ideal.cmp])
  | coe r => rfl

/-- Under the second precondition every prediction is a real number. -/
theorem real_of (p : FVec Ideal Pre_finite_in_range.S1024x100000 .f32) (t : IVec Pre_finite_in_range.S1024 32)
    (h : Cert.Pre_finite_in_range.fn (F := Ideal) p t = fun _ => 1#1) (i : Pre_finite_in_range.S1024x100000.Idx) : (((p i : EReal).toReal : ℝ) : EReal) = p i :=
  real_of_lt _ (Host.reduce_andi_all _ _ _ _ ix0 (IntOp.andi_eq_one.1 (congrFun h ix0)).2 i)

end Cert.Proof.Pre

end
-- ==== Proof.Frames.lean ====
/-
  The frames: each program runs to its end, the arguments end unchanged, and every counter ends at zero.
-/
module

public import proofs.«01_k».proof.Defs
public import proofs.«01_k».proof.Proof.BitsLaunch
public import proofs.«01_k».proof.Proof.BitsNums
public import proofs.«01_k».proof.Proof.IdealLaunch
public import proofs.«01_k».proof.Proof.IdealNums
public import proofs.«01_k».proof.Proof.Pre
public import proofs.«01_k».proof.Proof.Gen.ReferenceIdeal.Run

@[expose] public section

noncomputable section

namespace Cert.Proof

open Idealize.ShloMosaic Idealize.SL.Sem

/-- The kernel's frame, at the machine's floats. -/
theorem frame_kernel : Cert.quiescent_Kernel := fun m ρ hp =>
  (θ_run Cert.Kernel.defs _ _).mono (fun _ h => ⟨fun c => ⟨(h.1 c).1, (h.1 c).2.1⟩, h.2⟩)
    (KB.run_main (F := Bits) m ρ (KB.inTable m fun d j => Pre.range_of _ _ (hp d) j))

/-- The idealized kernel's run, targets in range: arguments unchanged, the result at the last memory's. -/
theorem run_ideal (m : (ℓ : Loc Cert.KernelIdeal.nD Cert.KernelIdeal.τ Cert.KernelIdeal.sig) → Buf (Elt Ideal) ℓ) (ρ : Dev Cert.KernelIdeal.nD → PrngReg)
    (h : ∀ d, KI.InRange m d) : θ_run (Cert.KernelIdeal.defs (F := Ideal)) (Cert.KernelIdeal.threads (F := Ideal)) ⟨m, fun _ => 0, ρ⟩ (KI.QC m) :=
  KI.run_main (F := Ideal) m ρ (KI.inTable m h)

/-- The idealized kernel's frame. -/
theorem frame_ideal : Cert.quiescent_KernelIdeal := fun m ρ hp =>
  (θ_run Cert.KernelIdeal.defs _ _).mono (fun _ h => ⟨fun c => ⟨(h.1 c).1, (h.1 c).2.1⟩, h.2⟩)
    (run_ideal m ρ fun d j => Pre.range_of _ _ (hp d) j)

/-- The same under the second precondition. -/
theorem frame_ideal_fin : Cert.quiescent_KernelIdeal_pre_finite_in_range := fun m ρ hp =>
  (θ_run Cert.KernelIdeal.defs _ _).mono (fun _ h => ⟨fun c => ⟨(h.1 c).1, (h.1 c).2.1⟩, h.2⟩)
    (run_ideal m ρ fun d j => Pre.range_of_fin _ _ (hp d) j)

/-- The reference's frame; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same stated under the second precondition, as the value claim has it. -/
theorem frame_ref_fin : Cert.quiescent_ReferenceIdeal_pre_finite_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants: each name's value at the ideal floats, its word at the machine's. -/
theorem preserves : Cert.preserves_Kernel_KernelIdeal :=
  ⟨IdealRules.named_const.statement Cert.KernelIdeal.κ "eps" .f32 0x3586386D#32 ((1 / 999980 : ℝ) : EReal) rfl,
   IdealRules.named_const.statement Cert.KernelIdeal.κ "row_entropy" .f32 0xBFBCF9CF#32 (((1 / 10) * (Real.log (387420489 / 999980000000000)) : ℝ) : EReal) rfl,
   IdealRules.named_const.statement Cert.KernelIdeal.κ "conf" .f32 0x3F666666#32 ((9 / 10 : ℝ) : EReal) rfl⟩

end Cert.Proof

end
-- ==== Proof.Math.lean ====
/-
  The mathematics of one row. A row's smoothed target has weight γ at the target, 0 at the padding column and ε elsewhere; summing
  its terms column by column gives the row's entropy less ε times the other predictions' sum less γ times the target's prediction.
-/
module

public import Mathlib.Analysis.SpecialFunctions.Log.Basic
public import Mathlib.Data.EReal.Operations

@[expose] public section

noncomputable section

namespace Cert.Proof.Math

/-- The weight of column `c` in a row whose target is `t`, the padding column being `z`: 0 throughout when the target is padding. -/
def weight {n : ℕ} (z t c : Fin n) : ℝ := if t = z then 0 else if c = z then 0 else if c = t then 9 / 10 else 1 / 999980

/-- The term of a weight `w` and a prediction `p`. -/
def term (w p : ℝ) : ℝ := (if w = 0 then 0 else w * Real.log w) - w * p

/-- A row's entropy, as the one logarithm it comes to. -/
def entropy : ℝ := (1 / 10) * Real.log (387420489 / 999980000000000)

/-- A row's share of the loss from its sum `s`, its target's prediction and its padding column's. -/
def rowLoss (s pz pt : ℝ) : ℝ := entropy - 1 / 999980 * (s - pz - pt) - 9 / 10 * pt

/-- The entropy spelt out: the target's term, and 99998 terms of the small weight. -/
theorem entropy_eq : entropy = 9 / 10 * Real.log (9 / 10) + 99998 * (1 / 999980 * Real.log (1 / 999980)) := by
  have h : (387420489 / 999980000000000 : ℝ) = (9 / 10) ^ 9 * (1 / 999980) := by norm_num
  unfold entropy
  rw [h, Real.log_mul (by norm_num) (by norm_num), Real.log_pow]
  push_cast
  ring

/-- The column sum with two columns set apart: `A c` in general, 0 at `z`, `B` at `t`. -/
theorem sum_apart {n : ℕ} (A : Fin n → ℝ) (B : ℝ) (z t : Fin n) (h : t ≠ z) :
    ∑ c, (if c = z then 0 else if c = t then B else A c) = ∑ c, A c - A z - A t + B := by
  have e : ∀ c, (if c = z then 0 else if c = t then B else A c) = A c + (if c = z then -A z else 0) + (if c = t then B - A t else 0) := by
    intro c
    by_cases hz : c = z
    · subst hz
      simp [Ne.symm h]
    · by_cases ht : c = t
      · subst ht
        simp [hz]
      · simp [hz, ht]
  rw [Finset.sum_congr rfl fun c _ => e c, Finset.sum_add_distrib, Finset.sum_add_distrib, Finset.sum_ite_eq' _ z, Finset.sum_ite_eq' _ t,
    if_pos (Finset.mem_univ z), if_pos (Finset.mem_univ t)]
  ring

/-- A row's terms summed over its 100000 columns. -/
theorem row (p : Fin 100000 → ℝ) (z t : Fin 100000) :
    ∑ c, term (weight z t c) (p c) = if t = z then 0 else rowLoss (∑ c, p c) (p z) (p t) := by
  by_cases h : t = z
  · simp [weight, term, h]
  · rw [if_neg h]
    have e : ∀ c, term (weight z t c) (p c)
        = if c = z then 0 else if c = t then 9 / 10 * Real.log (9 / 10) - 9 / 10 * p t else 1 / 999980 * Real.log (1 / 999980) - 1 / 999980 * p c := by
      intro c
      unfold weight term
      rw [if_neg h]
      by_cases hz : c = z
      · simp [hz]
      · rw [if_neg hz, if_neg hz]
        by_cases ht : c = t
        · rw [if_pos ht, if_pos ht, if_neg (by norm_num), ht]
        · rw [if_neg ht, if_neg ht, if_neg (by norm_num)]
    rw [Finset.sum_congr rfl fun c _ => e c, sum_apart _ _ z t h, Finset.sum_sub_distrib, Finset.sum_const, Finset.card_univ, Fintype.card_fin,
      ← Finset.mul_sum, nsmul_eq_mul]
    unfold rowLoss
    rw [entropy_eq]
    push_cast
    ring

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Proof.Math

end
-- ==== Proof.IdealValue.lean ====
/-
  The idealized kernel's result over real predictions: the rows' losses summed, rows whose target is padding left out.
-/
module

public import proofs.«01_k».proof.Proof.IdealNums
public import proofs.«01_k».proof.Proof.Math
public import Idealize.ShloMosaic.PureOps.Ideal.Laws

@[expose] public section

noncomputable section

namespace Cert.Proof.KI

open Cert.KernelIdeal Cert.KernelIdeal.Gen
open Idealize.ShloMosaic Idealize.ShloMosaic.TcCoe Idealize.ShloMosaic.ValueIdx

/-- The pass over one block of rows: each row's sum. -/
theorem pay3_at (X : Vec Ideal S16x100000 .f32) (a : Fin 16) (z : Fin 1) : k1_pay3 X (ix2 a z) = (∑ c : Fin 100000, (X (ix2 a c) : EReal) : EReal) := by
  unfold k1_pay3
  dsimp only
  rw [shapeCast_apply _ _ _ (ix2 a z) rfl,
    shapeCast_apply _ _ _ (ix1 a) (by rw [Shape.rowMajor_val_two, Shape.rowMajor_val_one]; show a.val = a.val * 1 + z.val; omega)]
  refine (Ideal.multiReduction_add_single X _ reduces_S16x100000_S16 _ _ (ix1 a)).trans ?_
  refine Finset.sum_congr rfl fun c _ => congrArg X ?_
  funext b
  match b with
  | ⟨0, _⟩ => rfl
  | ⟨1, _⟩ => rfl

/-- The rows' sums, all 64 blocks together. -/
theorem rowSums_at (A : S1024x100000.Idx → Ideal .f32) (r : Fin 1024) (z : Fin 1) : rowSums A (ix2 r z) = (∑ c : Fin 100000, (A (ix2 r c) : EReal) : EReal) := by
  have hr := r.isLt
  have e : pick (ix2 r z) = ix2 (⟨r.val % 16, Nat.mod_lt _ (by decide)⟩ : Fin 16) (0 : Fin 1) := by
    funext b
    match b with
    | ⟨0, _⟩ => rfl
    | ⟨1, _⟩ => exact Subsingleton.elim (α := Fin 1) _ _
  unfold rowSums
  rw [e]
  refine (pay3_at (rowBlk A (r.val / 16)) _ _).trans (Finset.sum_congr rfl fun c _ => ?_)
  unfold rowBlk
  refine congrArg A ?_
  funext b
  match b with
  | ⟨0, _⟩ => exact Fin.ext (by show (16 * (r.val / 16) + r.val % 16) % 1024 = r.val; omega)
  | ⟨1, _⟩ => rfl

/-- The three named constants at the ideal floats. -/
theorem eps_eq : (Named.named (F := Ideal) κ "eps" (φ := .f32) 0x3586386D#32 : EReal) = ((1 / 999980 : ℝ) : EReal) := rfl
theorem conf_eq : (Named.named (F := Ideal) κ "conf" (φ := .f32) 0x3F666666#32 : EReal) = ((9 / 10 : ℝ) : EReal) := rfl
theorem ent_eq : (Named.named (F := Ideal) κ "row_entropy" (φ := .f32) 0xBFBCF9CF#32 : EReal) = ((Math.entropy : ℝ) : EReal) := rfl

/-- The last step over columns of real numbers: each row's loss, 0 where the target is 0, summed. -/
theorem pay2_at (S T Z : Vec Ideal S1024x1 .f32) (t : Vec Ideal S1024x1 .i32) (s pt pz : Fin 1024 → ℝ)
    (hS : ∀ r, S (ix2 r (0 : Fin 1)) = (s r : EReal)) (hT : ∀ r, T (ix2 r (0 : Fin 1)) = (pt r : EReal)) (hZ : ∀ r, Z (ix2 r (0 : Fin 1)) = (pz r : EReal)) (j : S1x1.Idx) :
    k1_pay2 (F := Ideal) S T Z t j = ((∑ r : Fin 1024, (if t (ix2 r (0 : Fin 1)) = 0#32 then 0 else Math.rowLoss (s r) (pz r) (pt r)) : ℝ) : EReal) := by
  unfold k1_pay2
  dsimp only
  rw [shapeCast_apply _ _ _ (ix1 (0 : Fin 1)) (by
      have h0 : (j 0).val < 1 := (j 0).isLt
      have h1 : (j 1).val < 1 := (j 1).isLt
      rw [Shape.rowMajor_val_two, Shape.rowMajor_val_one]
      show 0 = (j 0).val * 1 + (j 1).val
      omega)]
  refine (Ideal.multiReduction_add_total _ _ reduces_S1024x1_S1 (fun b => by match b with | ⟨0, _⟩ => rfl) _ _ (ix1 (0 : Fin 1))).trans ?_
  rw [sum_idx2, Math.coe_sum]
  refine Finset.sum_congr rfl fun r _ => ?_
  rw [Fin.sum_univ_one, select_apply]
  simp only [shapeCast_self]
  show Scalar.select (IntOp.cmpi .ne (t (ix2 r (0 : Fin 1))) 0#32)
    (((Math.entropy : ℝ) : EReal) - ((1 / 999980 : ℝ) : EReal) * ((S (ix2 r (0 : Fin 1)) : EReal) - (Z (ix2 r (0 : Fin 1)) : EReal) - (T (ix2 r (0 : Fin 1)) : EReal))
      - ((9 / 10 : ℝ) : EReal) * (T (ix2 r (0 : Fin 1)) : EReal)) (Ideal.ofBits .f32 0x00000000#32) = _
  rw [Ideal.ofBits_zero_f32, hS, hT, hZ]
  by_cases h : t (ix2 r (0 : Fin 1)) = 0#32
  · rw [if_pos h]
    have hc : ¬ IntOp.cmpi .ne (t (ix2 r (0 : Fin 1))) 0#32 = 1#1 := fun e => IntOp.cmpi_ne.1 e h
    exact (if_neg hc).trans EReal.coe_zero.symm
  · rw [if_neg h, IntOp.cmpi_ne.2 h]
    show ((Math.entropy : ℝ) : EReal) - _ - _ = _
    unfold Math.rowLoss
    simp only [← EReal.coe_sub, ← EReal.coe_mul]

end Cert.Proof.KI

end
-- ==== Proof.Weights.lean ====
/-
  The reference's weights, read at a row and a column: its two scatters set the target's column and then the padding column, and its
  select clears the rows whose target is padding.
-/
module

public import proofs.«01_k».proof.Proof.Gen.ReferenceIdeal
public import proofs.«01_k».proof.Proof.Math
public import Idealize.ShloMosaic.Lib.Routing.OpsOne
public import Idealize.ShloMosaic.Lib.Routing.OpsSet
public import Idealize.ShloMosaic.Lib.Pipeline.Value
public import Idealize.ShloMosaic.Lib.IdealHost

@[expose] public section

noncomputable section

namespace Cert.Proof.Ref

open Cert.ReferenceIdeal Cert.ReferenceIdeal.Gen
open Idealize.ShloMosaic Idealize.ShloMosaic.ValueIdx Idealize.ShloMosaic.Routing

/-- Update `a` of the first scatter lands at row `r`, column `c` exactly when its two index words, read signed, are `r` and `c`. -/
theorem lands_pair (idx : IVec S1024x2 32) (a r : Fin 1024) (c : Fin 100000) :
    scatter_S1024x100000_S1024x2_S1024_n_01_01_1.resultIdx? (ix1 a) idx = some (ix2 r c)
      ↔ (idx (ix2 a (0 : Fin 2))).toInt = r.val ∧ (idx (ix2 a (1 : Fin 2))).toInt = c.val := by
  have hw : ∀ q : Fin 2, scatter_S1024x100000_S1024x2_S1024_n_01_01_1.window (ix1 a) q = 0 := fun q => by fin_cases q <;> rfl
  have hi : ∀ (q : Fin 2) (h : q.val < 2), scatter_S1024x100000_S1024x2_S1024_n_01_01_1.siIdx (ix1 a) ⟨q.val, h⟩ = ix2 a q := fun q h => by
    funext b
    match b with
    | ⟨0, _⟩ => rfl
    | ⟨1, _⟩ => rfl
  have hs : ∀ q : Fin 2, scatter_S1024x100000_S1024x2_S1024_n_01_01_1.start (ix1 a) idx q = (idx (ix2 a q)).toInt := fun q => by
    rw [← hi q q.isLt]
    fin_cases q <;> rfl
  rw [resultIdx?_ix2, hs, hs, hw, hw]
  omega

/-- Update `a` of the second scatter lands at row `a` of the column its one index word, read signed, is. -/
theorem lands_column (idx : IVec S1 32) (k : Fin 100000) (hk : (idx (ix1 (0 : Fin 1))).toInt = k.val) (a r : Fin 1024) (c : Fin 100000) :
    scatter_S1024x100000_S1_S1024_0_1_1_0.resultIdx? (ix1 a) idx = some (ix2 r c) ↔ a = r ∧ c = k :=
  lands_col scatter_S1024x100000_S1_S1024_0_1_1_0 rfl rfl idx k hk a r c

/-- The float words 1, 10 and 99998 are those numbers. -/
theorem word_one : Ideal.ofBits .f32 0x3F800000#32 = ((1 : ℝ) : EReal) := by
  simp [Ideal.ofBits, Ideal.ieee, -EReal.coe_mul]; norm_num
theorem word_ten : Ideal.ofBits .f32 0x41200000#32 = ((10 : ℝ) : EReal) := by
  simp [Ideal.ofBits, Ideal.ieee, -EReal.coe_mul]; norm_num
theorem word_rest : Ideal.ofBits .f32 0x47C34F00#32 = ((99998 : ℝ) : EReal) := by
  simp [Ideal.ofBits, Ideal.ieee, -EReal.coe_mul]; norm_num

/-- The smoothing rate, the small weight and the target's weight as the reference computes them. -/
abbrev rate : FVec Ideal S_ .f32 := Host.divf (constant S_ .f32 0x3F800000#32) (constant S_ .f32 0x41200000#32)
abbrev small : FVec Ideal S_ .f32 := Host.divf rate (constant S_ .f32 0x47C34F00#32)
abbrev large : FVec Ideal S_ .f32 := subf (constant S_ .f32 0x3F800000#32) rate

theorem rate_at (i : S_.Idx) : rate i = ((1 / 10 : ℝ) : EReal) := by
  show Ideal.div (Ideal.ofBits .f32 0x3F800000#32) (Ideal.ofBits .f32 0x41200000#32) = _
  rw [word_one, word_ten, Ideal.div_coe (by norm_num), ← EReal.coe_mul, one_mul]

theorem small_at (i : S_.Idx) : small i = ((1 / 999980 : ℝ) : EReal) := by
  show Ideal.div (rate i) (Ideal.ofBits .f32 0x47C34F00#32) = _
  rw [rate_at, word_rest, Ideal.div_coe (by norm_num), ← EReal.coe_mul]
  norm_num

theorem large_at (i : S_.Idx) : large i = ((9 / 10 : ℝ) : EReal) := by
  show (Ideal.ofBits .f32 0x3F800000#32 : EReal) - rate i = _
  rw [rate_at, word_one, ← EReal.coe_sub]
  norm_num

/-- A word array with its negative words raised by `n`. -/
def wrapped (x : IVec S1024 32) (n : BitVec 32) : IVec S1024 32 :=
  select (cmpi .slt x (broadcastInDim S1024 ![] bcast_S_S1024 (constantI S_ 32 0#32))) (addi x (broadcastInDim S1024 ![] bcast_S_S1024 (constantI S_ 32 n))) x

/-- Words below 2³¹ are not negative, and stay. -/
theorem wrapped_at (x : IVec S1024 32) (n : BitVec 32) (j : S1024.Idx) (h : (x j).toNat < 2 ^ 31) : wrapped x n j = x j :=
  wrap_of_lt (x j) _ h

/-- The pairs of index words, a row and its target's column. -/
def pairs (t : IVec S1024 32) : IVec S1024x2 32 :=
  concatenate S1024x2 1 [⟨S1024x1, broadcastInDim S1024x1 ![0] bcast_S1024_S1024x1_0 (wrapped (iotaInDim S1024 32 0) 1024#32)⟩,
    ⟨S1024x1, broadcastInDim S1024x1 ![0] bcast_S1024_S1024x1_0 (wrapped t 100000#32)⟩] concatenates_S1024x1_S1024x1_S1024x2_d1

/-- A vector stood up as a column, and a column laid along every row. -/
theorem column_at {w : ℕ} (x : IVec S1024 w) (a : Fin 1024) (z : Fin 1) : broadcastInDim S1024x1 ![0] bcast_S1024_S1024x1_0 x (ix2 a z) = x (ix1 a) :=
  broadcastInDim_apply _ _ _ _ (ix1 a) (fun b => by match b with | ⟨0, _⟩ => rfl)
theorem along_at {w : ℕ} (x : IVec S1024x1 w) (r : Fin 1024) (c : Fin 100000) :
    broadcastInDim S1024x100000 ![0, 1] bcast_S1024x1_S1024x100000_0_1 x (ix2 r c) = x (ix2 r (0 : Fin 1)) :=
  broadcastInDim_apply _ _ _ _ (ix2 r (0 : Fin 1)) (fun b => by match b with | ⟨0, _⟩ => rfl | ⟨1, _⟩ => rfl)

/-- Two columns side by side. -/
theorem beside_left (x y : IVec S1024x1 32) (a : Fin 1024) :
    concatenate S1024x2 1 [⟨S1024x1, x⟩, ⟨S1024x1, y⟩] concatenates_S1024x1_S1024x1_S1024x2_d1 (ix2 a (0 : Fin 2)) = x (ix2 a (0 : Fin 1)) :=
  concatenate_pair_apply_left (t := S1024x2) 1 x y concatenates_S1024x1_S1024x1_S1024x2_d1 (ix2 a (0 : Fin 2)) rfl (ix2 a (0 : Fin 1))
    fun b => by match b with | ⟨0, _⟩ => rfl | ⟨1, _⟩ => rfl
theorem beside_right (x y : IVec S1024x1 32) (a : Fin 1024) :
    concatenate S1024x2 1 [⟨S1024x1, x⟩, ⟨S1024x1, y⟩] concatenates_S1024x1_S1024x1_S1024x2_d1 (ix2 a (1 : Fin 2)) = y (ix2 a (0 : Fin 1)) :=
  concatenate_pair_apply_right (t := S1024x2) 1 x y concatenates_S1024x1_S1024x1_S1024x2_d1 (ix2 a (1 : Fin 2)) rfl rfl (ix2 a (0 : Fin 1))
    (fun b hb => by match b with | ⟨0, _⟩ => rfl | ⟨1, _⟩ => exact absurd rfl hb) rfl

theorem pairs_row (t : IVec S1024 32) (a : Fin 1024) : (pairs t (ix2 a (0 : Fin 2))).toInt = a.val := by
  have ha := a.isLt
  have h : ((iotaInDim S1024 32 0 : IVec S1024 32) (ix1 a)) = BitVec.ofNat 32 a.val := rfl
  unfold pairs
  rw [beside_left, column_at, wrapped_at _ _ _ (by rw [h, BitVec.toNat_ofNat]; omega), h]
  exact StableHlo.Predicate.toInt_ofNat_small _ (by omega)

theorem pairs_col (t : IVec S1024 32) (a : Fin 1024) (ht : (t (ix1 a)).toNat < 100000) : (pairs t (ix2 a (1 : Fin 2))).toInt = (t (ix1 a)).toNat := by
  unfold pairs
  rw [beside_right, column_at, wrapped_at _ _ _ (by omega)]
  exact StableHlo.Predicate.toInt_eq_toNat_of_lt (by omega)

/-- The weights after the first scatter, after the second, and with the padding rows cleared. -/
def one (t : IVec S1024 32) : FVec Ideal S1024x100000 .f32 :=
  Host.scatter scatter_S1024x100000_S1024x2_S1024_n_01_01_1 (fun _ b => b) (broadcastInDim S1024x100000 ![] bcast_S_S1024x100000 small) (pairs t)
    (broadcastInDim S1024 ![] bcast_S_S1024 large)
def two (t : IVec S1024 32) : FVec Ideal S1024x100000 .f32 :=
  Host.scatter scatter_S1024x100000_S1_S1024_0_1_1_0 (fun _ b => b) (one t) (broadcastInDim S1 ![] bcast_S_S1 (constantI S_ 32 0#32))
    (broadcastInDim S1024 ![] bcast_S_S1024 (constant S_ .f32 0x00000000#32))
def wts (t : IVec S1024 32) : FVec Ideal S1024x100000 .f32 :=
  select (broadcastInDim S1024x100000 ![0, 1] bcast_S1024x1_S1024x100000_0_1 (broadcastInDim S1024x1 ![0] bcast_S1024_S1024x1_0
      (cmpi .eq t (broadcastInDim S1024 ![] bcast_S_S1024 (constantI S_ 32 0#32)))))
    (broadcastInDim S1024x100000 ![] bcast_S_S1024x100000 (id (constant S_ .f32 0x00000000#32))) (two t)

variable (t : IVec S1024 32) (ht : ∀ j, (t j).toNat < 100000)
include ht

/-- The first scatter sets each row's target. -/
theorem one_at (r : Fin 1024) (c : Fin 100000) : one t (ix2 r c) = if c.val = (t (ix1 r)).toNat then ((9 / 10 : ℝ) : EReal) else ((1 / 999980 : ℝ) : EReal) := by
  have hl : ∀ k : S1024.Idx, scatter_S1024x100000_S1024x2_S1024_n_01_01_1.resultIdx? k (pairs t) = some (ix2 r c) ↔ k = ix1 r ∧ c.val = (t (ix1 r)).toNat := fun k => by
    obtain ⟨a, rfl⟩ : ∃ a : Fin 1024, k = ix1 a := ⟨k 0, eq_ix1 k⟩
    rw [lands_pair, pairs_row, pairs_col t a (ht _)]
    constructor
    · rintro ⟨h0, h1⟩
      obtain rfl : a = r := Fin.ext (by exact_mod_cast h0)
      exact ⟨rfl, by exact_mod_cast h1.symm⟩
    · rintro ⟨h0, h1⟩
      obtain rfl : a = r := congrFun h0 0
      exact ⟨rfl, by exact_mod_cast h1.symm⟩
  by_cases h : c.val = (t (ix1 r)).toNat
  · rw [if_pos h]
    exact scatter_set_hit _ _ _ _ _ _ (fun k _ => large_at _) (ix1 r) ((hl _).2 ⟨rfl, h⟩)
  · rw [if_neg h]
    exact (scatter_set_miss _ _ _ _ _ fun k hk => h ((hl k).1 hk).2).trans (small_at _)

omit ht in
/-- The second clears the padding column. -/
theorem two_at (r : Fin 1024) (c : Fin 100000) : two t (ix2 r c) = if c.val = 0 then 0 else one t (ix2 r c) := by
  have hl : ∀ k : S1024.Idx, scatter_S1024x100000_S1_S1024_0_1_1_0.resultIdx? k (broadcastInDim S1 ![] bcast_S_S1 (constantI S_ 32 0#32)) = some (ix2 r c) ↔ k = ix1 r ∧ c.val = 0 := fun k => by
    obtain ⟨a, rfl⟩ : ∃ a : Fin 1024, k = ix1 a := ⟨k 0, eq_ix1 k⟩
    rw [lands_column _ ⟨0, by decide⟩ rfl]
    constructor
    · rintro ⟨h0, h1⟩
      exact ⟨congrArg ix1 h0, congrArg Fin.val h1⟩
    · rintro ⟨h0, h1⟩
      exact ⟨congrFun h0 0, Fin.ext h1⟩
  by_cases h : c.val = 0
  · rw [if_pos h]
    exact scatter_set_hit _ _ _ _ _ _ (fun k _ => Ideal.ofBits_zero_f32) (ix1 r) ((hl _).2 ⟨rfl, h⟩)
  · rw [if_neg h]
    exact scatter_set_miss _ _ _ _ _ fun k hk => h ((hl k).1 hk).2

/-- The weights are the smoothed target distribution. -/
theorem wts_at (r : Fin 1024) (c : Fin 100000) :
    wts t (ix2 r c) = ((Math.weight (⟨0, by decide⟩ : Fin 100000) ⟨(t (ix1 r)).toNat, ht _⟩ c : ℝ) : EReal) := by
  have hm : wts t (ix2 r c) = if t (ix1 r) = 0#32 then 0 else two t (ix2 r c) := by
    unfold wts
    rw [select_apply, along_at, column_at]
    show Scalar.select (IntOp.cmpi .eq (t (ix1 r)) 0#32) (Ideal.ofBits .f32 0x00000000#32) (two t (ix2 r c)) = _
    rw [Ideal.ofBits_zero_f32]
    by_cases h : t (ix1 r) = 0#32
    · rw [if_pos h, IntOp.cmpi_eq.2 h]; rfl
    · rw [if_neg h]
      have : IntOp.cmpi .eq (t (ix1 r)) 0#32 ≠ 1#1 := fun e => h (IntOp.cmpi_eq.1 e)
      exact if_neg this
  have hz : t (ix1 r) = 0#32 ↔ (⟨(t (ix1 r)).toNat, ht _⟩ : Fin 100000) = ⟨0, by decide⟩ := by
    rw [Fin.mk.injEq, ← BitVec.toNat_inj]; rfl
  rw [hm, two_at, one_at t ht]
  unfold Math.weight
  simp only [hz, Fin.ext_iff]
  split_ifs <;> simp

end Cert.Proof.Ref

end
-- ==== Proof.RefValue.lean ====
/-
  The reference's result: the sum, over the rows and the columns, of the weights' terms.
-/
module

public import proofs.«01_k».proof.Proof.Weights
public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe Idealize.ShloMosaic.ValueIdx

/-- The array of zeros. -/
abbrev zeros : FVec Ideal S1024x100000 .f32 := broadcastInDim S1024x100000 ![] bcast_S_S1024x100000 (constant S_ .f32 0x00000000#32)

/-- The terms the reference sums, of any weights `w` and predictions `p`: `w log w` where `w` is not zero, less `w p`. -/
def terms (w p : FVec Ideal S1024x100000 .f32) : FVec Ideal S1024x100000 .f32 :=
  subf (select (ori (cmpf .une w zeros) (cmpf .une w w)) (mulf w (Host.log w)) zeros) (mulf w p)

/-- The reference's result as that sum. -/
theorem result_eq (m : (ℓ : Loc nD τ sig) → Buf (Elt Ideal) ℓ) (c : Dev nD) :
    Cert.ReferenceIdeal.Value.res_main_v37 m c
      = Host.reduceAdd (terms (wts (m ((c.tc : Thread nD τ).loc main_arg1))) (m ((c.tc : Thread nD τ).loc main_arg0))) (constant S_ .f32 0x00000000#32)
          reducesTo_S1024x100000_S_d0_1 h_S_ := rfl

/-- A term whose weight is a real number that is not negative and whose prediction is real. -/
theorem terms_at (w p : FVec Ideal S1024x100000 .f32) (i : S1024x100000.Idx) (a b : ℝ) (ha : 0 ≤ a) (hw : w i = (a : EReal)) (hp : p i = (b : EReal)) :
    terms w p i = ((Math.term a b : ℝ) : EReal) := by
  have e : terms w p i = (Scalar.select (IntOp.ori (Ideal.cmp .une (w i) (Ideal.ofBits .f32 0x00000000#32)) (Ideal.cmp .une (w i) (w i)))
      ((w i : EReal) * Ideal.log (w i)) (Ideal.ofBits .f32 0x00000000#32) : EReal) - (w i : EReal) * (p i : EReal) := rfl
  rw [e, hw, hp, Ideal.ofBits_zero_f32]
  unfold Math.term
  by_cases h : a = 0
  · subst h
    simp [Ideal.cmp, IntOp.ori, Scalar.select]
  · have hl : Ideal.log (a : EReal) = ((Real.log a : ℝ) : EReal) := by
      rw [Ideal.log_coe, if_neg (not_le.2 (lt_of_le_of_ne ha (Ne.symm h)))]
    have hc : Ideal.cmp .une (a : EReal) 0 = 1#1 := by
      have : ((a : ℝ) : EReal) ≠ 0 := by exact_mod_cast h
      simp [Ideal.cmp, this]
    rw [hc, hl, if_neg h]
    have hs : IntOp.ori 1#1 (Ideal.cmp .une (a : EReal) (a : EReal)) = 1#1 := by simp [Ideal.cmp, IntOp.ori]
    rw [hs]
    show ((a : EReal) * ((Real.log a : ℝ) : EReal)) - (a : EReal) * (b : EReal) = _
    rw [← EReal.coe_mul, ← EReal.coe_mul, ← EReal.coe_sub]

/-- A weight is not negative. -/
theorem weight_nonneg {n : ℕ} (z t c : Fin n) : 0 ≤ Math.weight z t c := by
  unfold Math.weight
  split_ifs <;> norm_num

/-- Of targets in range and real predictions, the terms' sum over everything. -/
theorem sum_terms (t : IVec S1024 32) (ht : ∀ j, (t j).toNat < 100000) (p : FVec Ideal S1024x100000 .f32) (q : Fin 1024 → Fin 100000 → ℝ)
    (hp : ∀ r c, p (ix2 r c) = (q r c : EReal)) (j : S_.Idx) :
    Host.reduceAdd (terms (wts t) p) (constant S_ .f32 0x00000000#32) reducesTo_S1024x100000_S_d0_1 h_S_ j
      = ((∑ r : Fin 1024, ∑ c : Fin 100000, Math.term (Math.weight (⟨0, by decide⟩ : Fin 100000) ⟨(t (ix1 r)).toNat, ht _⟩ c) (q r c) : ℝ) : EReal) := by
  rw [hostReduceAdd_apply, Ideal.hostReduceAdd_total _ (fun b => b.elim0)]
  show (Ideal.ofBits .f32 0x00000000#32 : EReal) + _ = _
  rw [Ideal.ofBits_zero_f32, zero_add, sum_idx2, Math.coe_sum]
  refine Finset.sum_congr rfl fun r _ => ?_
  rw [Math.coe_sum]
  exact Finset.sum_congr rfl fun c _ => terms_at _ _ _ _ _ (weight_nonneg _ _ _) (wts_at t ht r c) (hp r c)

end Cert.Proof.Ref

end
-- ==== Proof.Value.lean ====
/-
  The two results agree: over real predictions and targets in range, both are the rows' losses summed.
-/
module

public import proofs.«01_k».proof.Proof.IdealValue
public import proofs.«01_k».proof.Proof.RefValue
public import proofs.«01_k».proof.Proof.Frames

@[expose] public section

noncomputable section

namespace Cert.Proof

open Idealize.ShloMosaic Idealize.ShloMosaic.TcCoe Idealize.ShloMosaic.ValueIdx Idealize.SL.Sem

/-- The loss of predictions `q` and targets `t`: each row's loss, 0 where the target is 0, summed over the rows. -/
def loss (q : Fin 1024 → Fin 100000 → ℝ) (t : Fin 1024 → Fin 100000) : ℝ :=
  ∑ r, if t r = ⟨0, by decide⟩ then 0 else Math.rowLoss (∑ c, q r c) (q r ⟨0, by decide⟩) (q r (t r))

/-- The reference's sum is the loss. -/
theorem sum_eq_loss (q : Fin 1024 → Fin 100000 → ℝ) (t : Fin 1024 → Fin 100000) :
    ∑ r, ∑ c, Math.term (Math.weight (⟨0, by decide⟩ : Fin 100000) (t r) c) (q r c) = loss q t :=
  Finset.sum_congr rfl fun r _ => Math.row (q r) _ (t r)

section
open Cert.KernelIdeal Cert.KernelIdeal.Gen

/-- The idealized kernel's result is the loss. -/
theorem kernel_value (m : (ℓ : Loc nD τ sig) → Buf (Elt Ideal) ℓ) (d : Dev nD) (h : KI.InRange m d) (q : Fin 1024 → Fin 100000 → ℝ)
    (hq : ∀ r c, (KI.arg0 m d (ix2 r c) : EReal) = (q r c : EReal)) (j : S_.Idx) :
    KI.V5 m d (Proc.devRef .tc main_v13) j = ((loss q (fun r => ⟨(KI.arg1 m d (ix1 r)).toNat, h _⟩) : ℝ) : EReal) := by
  rw [KI.V5_out]
  refine (shapeCast_apply _ _ _ (ix2 (0 : Fin 1) (0 : Fin 1)) rfl).trans ?_
  refine (KI.pay2_at _ _ _ _ (fun r => ∑ c, q r c) (fun r => q r ⟨(KI.arg1 m d (ix1 r)).toNat, h _⟩) (fun r => q r ⟨0, by decide⟩)
    (fun r => ?_) (fun r => ?_) (fun r => ?_) _).trans ?_
  · rw [KI.rowSums_at, Math.coe_sum]
    exact Finset.sum_congr rfl fun c _ => hq r c
  · exact (KI.col_lo m d h r 0).trans (hq r _)
  · exact (KI.col_hi m d r 0).trans (hq r _)
  · refine congrArg (fun x : ℝ => (x : EReal)) (Finset.sum_congr rfl fun r _ => ?_)
    rw [KI.col_t]
    refine if_congr ?_ rfl rfl
    rw [Fin.ext_iff, ← BitVec.toNat_inj]
    rfl

end

/-- The idealized kernel and the reference end with equal results, the predictions finite and the targets in range. -/
theorem algebraic : Cert.algebraic_KernelIdeal_ReferenceIdeal_pre_finite_in_range := fun m g m' g' hp hm =>
  ⟨fun c => KI.V5 m c (Proc.devRef .tc Cert.KernelIdeal.main_v13),
   (θ_run Cert.KernelIdeal.defs _ _).mono (fun _ h c => ⟨(h.1 c).2.2, (h.1 c).1, (h.1 c).2.1⟩)
     (run_ideal m g fun d j => Pre.range_of_fin _ _ (hp d) j),
   (θ_run Cert.ReferenceIdeal.defs _ _).mono (fun r h c => ⟨(h c).1.trans (by
       rw [Ref.result_eq, (hm c).1, (hm c).2]
       funext j
       exact (Ref.sum_terms _ (fun j => Pre.range_of_fin _ _ (hp c) j) _ (fun r k => (KI.arg0 m c (ix2 r k) : EReal).toReal)
           (fun r k => (Pre.real_of _ _ (hp c) (ix2 r k)).symm) j).trans
         ((congrArg (fun x : ℝ => (x : EReal)) (sum_eq_loss _ _)).trans
           (kernel_value m c (fun j => Pre.range_of_fin _ _ (hp c) j) _ (fun r k => (Pre.real_of _ _ (hp c) (ix2 r k)).symm) j).symm)),
       (h c).2⟩)
     (Cert.ReferenceIdeal.Value.run (F := Ideal) m' g')⟩

end Cert.Proof

end
-- ==== Proof.lean ====
/-
  The proof of the certificate: the frames and the idealization's named constants, proved in Proof/Frames.lean, and the value claim,
  proved in Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_finite_in_range
public import proofs.«01_k».proof.Proof.Frames
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_range.Gen.facts,
  Cert.Pre_finite_in_range.Gen.facts, frame_kernel, frame_ideal, frame_ideal_fin, frame_ref, frame_ref_fin, preserves, algebraic⟩

end Cert.Proof

end
